-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular_starts [hPre_regular_starts : Cert.Pre_regular_starts.Facts] (m : (ℓ : Loc Cert.KernelIdeal.nD Cert.KernelIdeal.τ Cert.KernelIdeal.sig) → Buf (Elt Ideal) ℓ) : Prop :=
  ∀ c : Dev Cert.KernelIdeal.nD,
    (Cert.Pre_regular_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular_starts [hPre_regular_starts : Cert.Pre_regular_starts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular_starts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_regular_starts [hKernelIdeal : Cert.KernelIdeal.Facts] [hPre_regular_starts : Cert.Pre_regular_starts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular_starts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_regular_starts [hReferenceIdeal : Cert.ReferenceIdeal.Facts] [hPre_regular_starts : Cert.Pre_regular_starts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular_starts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_regular_starts [hKernelIdeal : Cert.KernelIdeal.Facts] [hReferenceIdeal : Cert.ReferenceIdeal.Facts] [hPre_regular_starts : Cert.Pre_regular_starts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular_starts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_regular_starts : Cert.Pre_regular_starts.Facts),
    quiescent_Kernel (hKernel := hKernel)
    ∧ quiescent_KernelIdeal (hKernelIdeal := hKernelIdeal)
    ∧ quiescent_KernelIdeal_pre_regular_starts (hKernelIdeal := hKernelIdeal) (hPre_regular_starts := hPre_regular_starts)
    ∧ quiescent_ReferenceIdeal (hReferenceIdeal := hReferenceIdeal)
    ∧ quiescent_ReferenceIdeal_pre_regular_starts (hReferenceIdeal := hReferenceIdeal) (hPre_regular_starts := hPre_regular_starts)
    ∧ preserves_Kernel_KernelIdeal
    ∧ algebraic_KernelIdeal_ReferenceIdeal_pre_regular_starts (hKernelIdeal := hKernelIdeal) (hReferenceIdeal := hReferenceIdeal) (hPre_regular_starts := hPre_regular_starts)
-- ==== Pre_regular_starts.lean ====
abbrev S16384x4x128 : Shape := ⟨3, ![16384, 4, 128]⟩
abbrev S9 : Shape := ⟨1, ![9]⟩
abbrev S32x4096 : Shape := ⟨2, ![32, 4096]⟩
abbrev S8 : Shape := ⟨1, ![8]⟩
abbrev S_ : Shape := ⟨0, ![]⟩

class Facts : Prop where
  slices_S9_S8_0 : S9.Slices ![0] S8
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S16384x4x128 .f32) (main_arg1 : IVec S9 32) (main_arg2 : FVec F S32x4096 .f32) : IVec S_ 1 :=
  let main_v0 : IVec S8 32 := (extractStridedSlice S8 ![0] · slices_S9_S8_0) main_arg1
  let main_v1 : IVec S8 32 := iotaInDim S8 32 0
  let main_c : IVec S_ 32 := constantI S_ 32 2048#32
  let main_v2 : IVec S8 32 := broadcastInDim S8 ![] bcast_S_S8 main_c
  let main_v3 : IVec S8 32 := muli main_v1 main_v2
  let main_v4 : IVec S8 1 := cmpi .eq main_v0 main_v3
  let main_c_0 : IVec S_ 1 := constantI S_ 1 1#1
  let main_v5 : IVec S_ 1 := (fun x v => Host.reduce IntOp.andi x v reducesTo_S8_S_d0 h_S_) main_v4 main_c_0
  main_v5
-- ==== Kernel.lean ====
abbrev S16384x4x128 : Shape := ⟨3, ![16384, 4, 128]⟩
abbrev S9 : Shape := ⟨1, ![9]⟩
abbrev S32x4096 : Shape := ⟨2, ![32, 4096]⟩
abbrev S32x2048 : Shape := ⟨2, ![32, 2048]⟩
abbrev S2048x32 : Shape := ⟨2, ![2048, 32]⟩
abbrev S2048x64 : Shape := ⟨2, ![2048, 64]⟩
abbrev S16x128x64 : Shape := ⟨3, ![16, 128, 64]⟩
abbrev S32x32 : Shape := ⟨2, ![32, 32]⟩
abbrev S_ : Shape := ⟨0, ![]⟩
abbrev S32x32x128 : Shape := ⟨3, ![32, 32, 128]⟩
abbrev S1024x64x128 : Shape := ⟨3, ![1024, 64, 128]⟩
abbrev S8x508x128 : Shape := ⟨3, ![8, 508, 128]⟩
abbrev S1016x4x128 : Shape := ⟨3, ![1016, 4, 128]⟩
abbrev S128x64x128 : Shape := ⟨3, ![128, 64, 128]⟩
abbrev S1x508x128 : Shape := ⟨3, ![1, 508, 128]⟩
abbrev S128x4x128 : Shape := ⟨3, ![128, 4, 128]⟩
abbrev S512x128 : Shape := ⟨2, ![512, 128]⟩
abbrev S512x64 : Shape := ⟨2, ![512, 64]⟩
abbrev S1x128x64 : Shape := ⟨3, ![1, 128, 64]⟩
abbrev S128x64 : Shape := ⟨2, ![128, 64]⟩
abbrev S508x32 : Shape := ⟨2, ![508, 32]⟩
abbrev S508 : Shape := ⟨1, ![508]⟩
abbrev S508x1 : Shape := ⟨2, ![508, 1]⟩
abbrev S4x16 : Shape := ⟨2, ![4, 16]⟩
abbrev S508x16 : Shape := ⟨2, ![508, 16]⟩
abbrev S512x16 : Shape := ⟨2, ![512, 16]⟩
abbrev S512x32 : Shape := ⟨2, ![512, 32]⟩
abbrev S512x4096 : Shape := ⟨2, ![512, 4096]⟩
abbrev S508x128 : Shape := ⟨2, ![508, 128]⟩

abbrev nBuf : Space → Nat
  | .hbm => 21
  | .vmem => 6
  | .smem => 0
  | _ => 0

abbrev bufTy : (tb : Table) → Fin (tcTables nBuf tb) → BufTy
  | .hbm, ⟨0, _⟩ => ⟨S16384x4x128, .f32⟩
  | .hbm, ⟨1, _⟩ => ⟨S9, .i32⟩
  | .hbm, ⟨2, _⟩ => ⟨S32x4096, .f32⟩
  | .hbm, ⟨3, _⟩ => ⟨S32x2048, .f32⟩
  | .hbm, ⟨4, _⟩ => ⟨S2048x32, .f32⟩
  | .hbm, ⟨5, _⟩ => ⟨S32x2048, .f32⟩
  | .hbm, ⟨6, _⟩ => ⟨S2048x32, .f32⟩
  | .hbm, ⟨7, _⟩ => ⟨S2048x64, .f32⟩
  | .hbm, ⟨8, _⟩ => ⟨S16x128x64, .f32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S32x32, .i1⟩
  | .hbm, ⟨15, _⟩ => ⟨S32x32, .f32⟩
  | .hbm, ⟨16, _⟩ => ⟨S32x32x128, .f32⟩
  | .hbm, ⟨17, _⟩ => ⟨S32x4096, .f32⟩
  | .hbm, ⟨18, _⟩ => ⟨S1024x64x128, .f32⟩
  | .hbm, ⟨19, _⟩ => ⟨S8x508x128, .f32⟩
  | .hbm, ⟨20, _⟩ => ⟨S1016x4x128, .f32⟩
  | .local _ .vmem, ⟨0, _⟩ => ⟨S128x64x128, .f32⟩
  | .local _ .vmem, ⟨1, _⟩ => ⟨S128x64x128, .f32⟩
  | .local _ .vmem, ⟨2, _⟩ => ⟨S16x128x64, .f32⟩
  | .local _ .vmem, ⟨3, _⟩ => ⟨S32x4096, .f32⟩
  | .local _ .vmem, ⟨4, _⟩ => ⟨S1x508x128, .f32⟩
  | .local _ .vmem, ⟨5, _⟩ => ⟨S1x508x128, .f32⟩
  | _, _ => ⟨S16384x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_c : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_call0_v15 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x508x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x4x128 : Shape := ⟨3, ![16384, 4, 128]⟩
abbrev S9 : Shape := ⟨1, ![9]⟩
abbrev S32x4096 : Shape := ⟨2, ![32, 4096]⟩
abbrev S8 : Shape := ⟨1, ![8]⟩
abbrev S8x1 : Shape := ⟨2, ![8, 1]⟩
abbrev S127 : Shape := ⟨1, ![127]⟩
abbrev S1x127 : Shape := ⟨2, ![1, 127]⟩
abbrev S_ : Shape := ⟨0, ![]⟩
abbrev S8x127 : Shape := ⟨2, ![8, 127]⟩
abbrev S1016 : Shape := ⟨1, ![1016]⟩
abbrev S1016x1 : Shape := ⟨2, ![1016, 1]⟩
abbrev S32 : Shape := ⟨1, ![32]⟩
abbrev S1x32 : Shape := ⟨2, ![1, 32]⟩
abbrev S1016x32 : Shape := ⟨2, ![1016, 32]⟩
abbrev S1016x32x1 : Shape := ⟨3, ![1016, 32, 1]⟩
abbrev S1016x32x4x128 : Shape := ⟨4, ![1016, 32, 4, 128]⟩
abbrev S1016x4x32x128 : Shape := ⟨4, ![1016, 4, 32, 128]⟩
abbrev S1016x4x4096 : Shape := ⟨3, ![1016, 4, 4096]⟩
abbrev S1016x4x32 : Shape := ⟨3, ![1016, 4, 32]⟩
abbrev S1016x4 : Shape := ⟨2, ![1016, 4]⟩
abbrev S1016x4x1 : Shape := ⟨3, ![1016, 4, 1]⟩
abbrev S1016x4x128 : Shape := ⟨3, ![1016, 4, 128]⟩

abbrev nBuf : Space → Nat
  | .hbm => 47
  | .vmem => 0
  | .smem => 0
  | _ => 0

abbrev bufTy : (tb : Table) → Fin (tcTables nBuf tb) → BufTy
  | .hbm, ⟨0, _⟩ => ⟨S16384x4x128, .f32⟩
  | .hbm, ⟨1, _⟩ => ⟨S9, .i32⟩
  | .hbm, ⟨2, _⟩ => ⟨S32x4096, .f32⟩
  | .hbm, ⟨3, _⟩ => ⟨S8, .i32⟩
  | .hbm, ⟨4, _⟩ => ⟨S8x1, .i32⟩
  | .hbm, ⟨5, _⟩ => ⟨S127, .i32⟩
  | .hbm, ⟨6, _⟩ => ⟨S1x127, .i32⟩
  | .hbm, ⟨7, _⟩ => ⟨S_, .i32⟩
  | .hbm, ⟨8, _⟩ => ⟨S1x127, .i32⟩
  | .hbm, ⟨9, _⟩ => ⟨S1x127, .i32⟩
  | .hbm, ⟨10, _⟩ => ⟨S8x127, .i32⟩
  | .hbm, ⟨11, _⟩ => ⟨S8x127, .i32⟩
  | .hbm, ⟨12, _⟩ => ⟨S8x127, .i32⟩
  | .hbm, ⟨13, _⟩ => ⟨S1016, .i32⟩
  | .hbm, ⟨14, _⟩ => ⟨S1016x1, .i32⟩
  | .hbm, ⟨15, _⟩ => ⟨S32, .i32⟩
  | .hbm, ⟨16, _⟩ => ⟨S1x32, .i32⟩
  | .hbm, ⟨17, _⟩ => ⟨S1016x32, .i32⟩
  | .hbm, ⟨18, _⟩ => ⟨S1016x32, .i32⟩
  | .hbm, ⟨19, _⟩ => ⟨S1016x32, .i32⟩
  | .hbm, ⟨20, _⟩ => ⟨S_, .i32⟩
  | .hbm, ⟨21, _⟩ => ⟨S1016x32, .i32⟩
  | .hbm, ⟨22, _⟩ => ⟨S1016x32, .i1⟩
  | .hbm, ⟨23, _⟩ => ⟨S_, .i32⟩
  | .hbm, ⟨24, _⟩ => ⟨S1016x32, .i32⟩
  | .hbm, ⟨25, _⟩ => ⟨S1016x32, .i32⟩
  | .hbm, ⟨26, _⟩ => ⟨S1016x32, .i32⟩
  | .hbm, ⟨27, _⟩ => ⟨S1016x32x1, .i32⟩
  | .hbm, ⟨28, _⟩ => ⟨S1016x32x4x128, .f32⟩
  | .hbm, ⟨29, _⟩ => ⟨S1016x4x32x128, .f32⟩
  | .hbm, ⟨30, _⟩ => ⟨S1016x4x4096, .f32⟩
  | .hbm, ⟨31, _⟩ => ⟨S1016x4x32, .f32⟩
  | .hbm, ⟨32, _⟩ => ⟨S_, .f32⟩
  | .hbm, ⟨33, _⟩ => ⟨S1016x4, .f32⟩
  | .hbm, ⟨34, _⟩ => ⟨S_, .f32⟩
  | .hbm, ⟨35, _⟩ => ⟨S1016x4, .f32⟩
  | .hbm, ⟨36, _⟩ => ⟨S1016x4, .f32⟩
  | .hbm, ⟨37, _⟩ => ⟨S1016x4x1, .f32⟩
  | .hbm, ⟨38, _⟩ => ⟨S1016x4x32, .f32⟩
  | .hbm, ⟨39, _⟩ => ⟨S1016x4x32, .f32⟩
  | .hbm, ⟨40, _⟩ => ⟨S1016x4x32, .f32⟩
  | .hbm, ⟨41, _⟩ => ⟨S_, .f32⟩
  | .hbm, ⟨42, _⟩ => ⟨S1016x4, .f32⟩
  | .hbm, ⟨43, _⟩ => ⟨S1016x4x1, .f32⟩
  | .hbm, ⟨44, _⟩ => ⟨S1016x4x32, .f32⟩
  | .hbm, ⟨45, _⟩ => ⟨S1016x4x32, .f32⟩
  | .hbm, ⟨46, _⟩ => ⟨S1016x4x128, .f32⟩
  | _, _ => ⟨S16384x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Proof.Pooling.lean ====
/-
  Gated window pooling as plain mathematics over the extended reals: the function of the buffer and of the gate weights
  that both programs are shown to compute. A sequence of 2048 tokens has 127 windows of 32 tokens, one every 16 tokens;
  for each window and head the 32 tokens are scored against the gate weights, the scores become weights by a softmax,
  and the result is the weighted sum of the window's tokens.
-/
module

public import Idealize.ShloMosaic.PureOps.Ideal.Laws
public import Idealize.ShloMosaic.Lib.ValueIdx

@[expose] public section

noncomputable section

namespace Cert.Pooling

open Idealize.ShloMosaic Idealize.ShloMosaic.ValueIdx

/-- The softmax weight of entry `k` among 32 scores: `exp (s k - max s)` over the sum of all such exponentials. -/
def soft (s : Fin 32 → EReal) (k : Fin 32) : EReal :=
  Ideal.div (Ideal.exp (s k - (Finset.univ : Finset (Fin 32)).fold max ⊥ s))
    (∑ k' : Fin 32, Ideal.exp (s k' - (Finset.univ : Finset (Fin 32)).fold max ⊥ s))

/-- The token that is entry `k` of window `n`: window `n` is number `n % 127` of sequence `n / 127`. -/
def token (n : Fin 1016) (k : Fin 32) : Fin 16384 := ⟨n.val / 127 * 2048 + n.val % 127 * 16 + k.val, by omega⟩

/-- The score of entry `k` of window `n` and head `h`: the window's 4096 numbers against row `k` of the gate weights. -/
def score (X : (⟨3, ![16384, 4, 128]⟩ : Shape).Idx → EReal) (W : (⟨2, ![32, 4096]⟩ : Shape).Idx → EReal)
    (n : Fin 1016) (h : Fin 4) (k : Fin 32) : EReal :=
  ∑ e : Fin 4096, X (ix3 (token n ⟨e.val / 128, by omega⟩) h ⟨e.val % 128, by omega⟩) * W (ix2 k e)

/-- The pooled value of window `n`, head `h`, lane `d`. -/
def pooled (X : (⟨3, ![16384, 4, 128]⟩ : Shape).Idx → EReal) (W : (⟨2, ![32, 4096]⟩ : Shape).Idx → EReal)
    (n : Fin 1016) (h : Fin 4) (d : Fin 128) : EReal :=
  ∑ k : Fin 32, soft (score X W n h) k * X (ix3 (token n k) h d)

end Cert.Pooling

end
-- ==== Proof.BlockOps.lean ====
/-
  The steps of the kernel body read at one element over the extended reals: the reshaped rows of a token slice, one
  accumulation step of the gate product, the scores, the exponentials and their row sums, the two shifted weight
  halves, the product with the spreading matrix, and one accumulation step of the weighted sum.
-/
module

public import proofs.«01_k».proof.Proof.Pooling
public import proofs.«01_k».proof.Proof.Gen.KernelIdeal.Frame
public import Idealize.ShloMosaic.Lib.Pipeline.Value

@[expose] public section

noncomputable section

namespace Cert.KernelIdeal.Block

open Cert.KernelIdeal Cert.KernelIdeal.Gen Cert.Pooling Idealize.ShloMosaic Idealize.ShloMosaic.ValueIdx
open Cert.KernelIdeal.Facts

/-- The bit pattern of minus infinity is the bottom of the extended reals. -/
theorem ofBits_neg_inf : Ideal.ofBits .f32 0xFF800000#32 = ⊥ := by simp [Ideal.ofBits, Ideal.ieee]

/-! ## The rows of a token slice -/

/-- Row `r`, lane `d` of the reshaped slice of the token block that starts at row `o`: chunk `r / 4`, row `o + r % 4`. -/
theorem rows_apply (x0 : Vec Ideal S128x64x128 .f32) (o : Nat) (ho : o + 4 ≤ 64)
    (inb : ∀ a, (![0, o, 0] : Fin 3 → Nat) a + S128x4x128.size a ≤ S128x64x128.size a)
    (h : S128x4x128.ShapeCasts S128x4x128) (h' : S128x4x128.ShapeCasts S512x128) (r : Fin 512) (d : Fin 128) :
    shapeCast S512x128 (shapeCast S128x4x128 (View.ld x0 (Rect.unit (s := S128x64x128) ![0, o, 0] S128x4x128.size inb)) h) h' (ix2 r d)
      = x0 (ix3 ⟨r.val / 4, by omega⟩ ⟨o + r.val % 4, by omega⟩ d) := by
  refine (shapeCast_apply _ h' (ix2 r d) (ix3 (⟨r.val / 4, by omega⟩ : Fin 128) (⟨r.val % 4, by omega⟩ : Fin 4) d)
    (by rw [Shape.rowMajor_val_three, Shape.rowMajor_val_two]
        show (r.val / 4 * 4 + r.val % 4) * 128 + d.val = r.val * 128 + d.val
        omega)).trans ((congrFun (shapeCast_self _ h) _).trans ?_)
  rw [View.ld_unit]
  exact extractStridedSlice_apply _ _ _ _ _ fun a => match a with
    | ⟨0, _⟩ => (Nat.zero_add _).symm
    | ⟨1, _⟩ => rfl
    | ⟨2, _⟩ => (Nat.zero_add _).symm

/-- The gate weights of token position `j`: entry `(d, q)` of the loaded slice. -/
theorem gate_apply (x1 : Vec Ideal S16x128x64 .f32) (j : Fin 16)
    (inb : ∀ a, (![j.val, 0, 0] : Fin 3 → Nat) a + S1x128x64.size a ≤ S16x128x64.size a) (d : Fin 128) (q : Fin 64) :
    View.ld x1 (Rect.unit (s := S16x128x64) ![j.val, 0, 0] S1x128x64.size inb) (ix3 0 d q) = x1 (ix3 j d q) := by
  rw [View.ld_unit]
  exact extractStridedSlice_apply _ _ _ _ _ fun a => match a with
    | ⟨0, _⟩ => rfl
    | ⟨1, _⟩ => (Nat.zero_add _).symm
    | ⟨2, _⟩ => (Nat.zero_add _).symm

/-! ## The gate product -/

/-- One accumulation step of the gate product: the running array plus the rows times the position's gate weights. -/
def gateStep (a : FVec Ideal S512x64 .f32) (y : FVec Ideal S512x128 .f32) (w : Vec Ideal S1x128x64 .f32) : FVec Ideal S512x64 .f32 :=
  addf a (matmul dot_S512x128_S128x64_S512x64_1_0_0_1_n_n none y (shapeCast S128x64 w shapeCasts_S1x128x64_S128x64 : FVec Ideal S128x64 .f32)
    (constant S512x64 .f32 0x00000000#32))

/-- A [512,128] by [128,64] product into zeros, at one element. -/
theorem gateDot_apply (y : FVec Ideal S512x128 .f32) (w : FVec Ideal S128x64 .f32) (r : Fin 512) (q : Fin 64) :
    matmul dot_S512x128_S128x64_S512x64_1_0_0_1_n_n none y w (constant S512x64 .f32 0x00000000#32) (ix2 r q)
      = ∑ d : Fin 128, y (ix2 r d) * w (ix2 d q) := by
  simp only [matmul]
  rw [Ideal.matmul_constant_zero_apply, ← Equiv.sum_comp (contrEquiv1 dot_S512x128_S128x64_S512x64_1_0_0_1_n_n 128 rfl rfl).symm]
  refine Finset.sum_congr rfl fun d _ => ?_
  have hd := contrEquiv1_symm_val dot_S512x128_S128x64_S512x64_1_0_0_1_n_n 128 rfl rfl d
  refine congrArg₂ (· * ·) (congrArg y (funext fun a => Fin.ext ?_)) (congrArg w (funext fun a => Fin.ext ?_))
  · match a with
    | ⟨0, _⟩ => rfl
    | ⟨1, _⟩ => exact hd
  · match a with
    | ⟨0, _⟩ => exact hd
    | ⟨1, _⟩ => rfl

/-- One accumulation step of the gate product, at one element. -/
theorem gateStep_apply (a : FVec Ideal S512x64 .f32) (y : FVec Ideal S512x128 .f32) (w : Vec Ideal S1x128x64 .f32) (r : Fin 512) (q : Fin 64) :
    gateStep a y w (ix2 r q) = a (ix2 r q) + ∑ d : Fin 128, y (ix2 r d) * w (ix3 0 d q) := by
  unfold gateStep
  rw [addf_apply, gateDot_apply]
  refine congrArg (_ + ·) (Finset.sum_congr rfl fun d _ => congrArg (_ * ·) ?_)
  exact shapeCast_apply _ _ _ _ (by
    rw [Shape.rowMajor_val_three, Shape.rowMajor_val_two]
    show (0 * 128 + d.val) * 64 + q.val = d.val * 64 + q.val
    omega)

/-! ## Scores, exponentials, row sums -/

/-- The scores: the left gate product of a row plus the right one four rows on. -/
def scores (g : FVec Ideal S512x64 .f32) : FVec Ideal S508x32 .f32 :=
  addf (extractStridedSlice S508x32 ![0, 0] g slices_S512x64_o0_0_S508x32) (extractStridedSlice S508x32 ![4, 32] g slices_S512x64_o4_32_S508x32)

theorem scores_apply (g : FVec Ideal S512x64 .f32) (r : Fin 508) (k : Fin 32) :
    scores g (ix2 r k) = g (ix2 ⟨r.val, by omega⟩ ⟨k.val, by omega⟩) + g (ix2 ⟨4 + r.val, by omega⟩ ⟨32 + k.val, by omega⟩) := by
  unfold scores
  rw [addf_apply]
  refine congrArg₂ (· + ·) ?_ ?_
  · exact extractStridedSlice_apply _ _ _ _ _ fun a => match a with
      | ⟨0, _⟩ => (Nat.zero_add _).symm
      | ⟨1, _⟩ => (Nat.zero_add _).symm
  · exact extractStridedSlice_apply _ _ _ _ _ fun a => match a with
      | ⟨0, _⟩ => rfl
      | ⟨1, _⟩ => rfl

/-- A column of 508 numbers spread over 32 columns reads the row's number everywhere. -/
theorem spread_apply (v : FVec Ideal S508 .f32) (r : Fin 508) (k : Fin 32) :
    broadcastTo S508x32 (shapeCast S508x1 v shapeCasts_S508_S508x1) broadcasts_S508x1_S508x32 (ix2 r k) = v (ix1 r) := by
  refine (broadcastTo_apply _ _ (ix2 r k) (ix2 r (0 : Fin 1)) (fun a => match a with
    | ⟨0, _⟩ => rfl
    | ⟨1, _⟩ => rfl)).trans ?_
  exact shapeCast_apply _ _ _ _ (by
    rw [Shape.rowMajor_val_one, Shape.rowMajor_val_two]
    show r.val = r.val * 1 + 0
    omega)

/-- The exponentials of the scores less their row's maximum. -/
def expRows (s : FVec Ideal S508x32 .f32) : FVec Ideal S508x32 .f32 :=
  exp (subf s (broadcastTo S508x32 (shapeCast S508x1 (multiReduction .maximumf [1] S508 s 0xFF800000#32 reduces_S508x32_S508 (.inl rfl) rfl)
    shapeCasts_S508_S508x1) broadcasts_S508x1_S508x32))

theorem expRows_apply (s : FVec Ideal S508x32 .f32) (r : Fin 508) (k : Fin 32) :
    expRows s (ix2 r k) = Ideal.exp (s (ix2 r k) - (Finset.univ : Finset (Fin 32)).fold max ⊥ fun k' => s (ix2 r k')) := by
  unfold expRows
  refine congrArg (fun t => Ideal.exp (s (ix2 r k) - t)) ((spread_apply _ r k).trans
    ((Ideal.multiReduction_maximumf_single s 0xFF800000#32 reduces_S508x32_S508 (.inl rfl) rfl (ix1 r)).trans ?_))
  have hb : (FloatOps.ofBits .f32 0xFF800000#32 : Ideal .f32) = (⊥ : EReal) := ofBits_neg_inf
  rw [hb]
  refine congrArg (fun f => (Finset.univ : Finset (Fin 32)).fold max ⊥ f) (funext fun k' => congrArg s ?_)
  exact funext fun a => Fin.ext (match a with
    | ⟨0, _⟩ => rfl
    | ⟨1, _⟩ => rfl)

/-- The row sums, spread over the 32 columns. -/
def sumRows (e : FVec Ideal S508x32 .f32) : FVec Ideal S508x32 .f32 :=
  broadcastTo S508x32 (shapeCast S508x1 (multiReduction .add [1] S508 e 0x00000000#32 reduces_S508x32_S508 (.inl rfl) rfl)
    shapeCasts_S508_S508x1) broadcasts_S508x1_S508x32

theorem sumRows_apply (e : FVec Ideal S508x32 .f32) (r : Fin 508) (k : Fin 32) :
    sumRows e (ix2 r k) = ∑ k' : Fin 32, e (ix2 r k') := by
  unfold sumRows
  refine (spread_apply _ r k).trans ((Ideal.multiReduction_add_single e _ reduces_S508x32_S508 (.inl rfl) rfl (ix1 r)).trans ?_)
  refine Finset.sum_congr rfl fun k' _ => congrArg e ?_
  exact funext fun a => Fin.ext (match a with
    | ⟨0, _⟩ => rfl
    | ⟨1, _⟩ => rfl)

/-- Their quotient is the softmax of the row's scores. -/
theorem weights_apply (s : FVec Ideal S508x32 .f32) (r : Fin 508) (k : Fin 32) :
    divf (expRows s) (sumRows (expRows s)) (ix2 r k) = soft (fun k' => s (ix2 r k')) k := by
  rw [divf_apply, sumRows_apply, expRows_apply]
  unfold soft
  exact congrArg _ (Finset.sum_congr rfl fun k' _ => expRows_apply s r k')

/-! ## The shifted halves of the weights and their product with the spreading matrix -/

/-- The weights' left half with four zero rows below, beside their right half with four zero rows above. -/
def halves (w : FVec Ideal S508x32 .f32) : FVec Ideal S512x32 .f32 :=
  concatenate S512x32 1
    [⟨S512x16, concatenate S512x16 0 [⟨S508x16, extractStridedSlice S508x16 ![0, 0] w slices_S508x32_o0_0_S508x16⟩,
        ⟨S4x16, broadcast S4x16 (Scalar.ofBits (F := Ideal) .f32 0x00000000#32)⟩] concatenates_S508x16_S4x16_S512x16_d0⟩,
     ⟨S512x16, concatenate S512x16 0 [⟨S4x16, broadcast S4x16 (Scalar.ofBits (F := Ideal) .f32 0x00000000#32)⟩,
        ⟨S508x16, extractStridedSlice S508x16 ![0, 16] w slices_S508x32_o0_16_S508x16⟩] concatenates_S4x16_S508x16_S512x16_d0⟩]
    concatenates_S512x16_S512x16_S512x32_d1

/-- The left half keeps its rows. -/
theorem halves_left (w : FVec Ideal S508x32 .f32) (r : Fin 508) (j : Fin 16) :
    halves w (ix2 ⟨r.val, by omega⟩ ⟨j.val, by omega⟩) = w (ix2 r ⟨j.val, by omega⟩) := by
  unfold halves
  refine (concatenate_pair_apply_left (t := S512x32) (s₁ := S512x16) (s₂ := S512x16) 1 _ _ _ _ rfl (ix2 (⟨r.val, by omega⟩ : Fin 512) j)
    (fun b => match b with
      | ⟨0, _⟩ => rfl
      | ⟨1, _⟩ => rfl)).trans ?_
  refine (concatenate_pair_apply_left (t := S512x16) (s₁ := S508x16) (s₂ := S4x16) 0 _ _ _ _ rfl (ix2 r j) (fun b => match b with
      | ⟨0, _⟩ => rfl
      | ⟨1, _⟩ => rfl)).trans ?_
  exact extractStridedSlice_apply _ _ _ _ _ fun a => match a with
    | ⟨0, _⟩ => (Nat.zero_add _).symm
    | ⟨1, _⟩ => (Nat.zero_add _).symm

/-- The right half has moved four rows down. -/
theorem halves_right (w : FVec Ideal S508x32 .f32) (r : Fin 508) (j : Fin 16) :
    halves w (ix2 ⟨4 + r.val, by omega⟩ ⟨16 + j.val, by omega⟩) = w (ix2 r ⟨16 + j.val, by omega⟩) := by
  unfold halves
  refine (concatenate_pair_apply_right (t := S512x32) (s₁ := S512x16) (s₂ := S512x16) 1 _ _ _ _ rfl rfl
    (ix2 (⟨4 + r.val, by omega⟩ : Fin 512) j) (fun b hb => match b with
      | ⟨0, _⟩ => rfl
      | ⟨1, _⟩ => absurd rfl hb) (Nat.add_comm _ _)).trans ?_
  refine (concatenate_pair_apply_right (t := S512x16) (s₁ := S4x16) (s₂ := S508x16) 0 _ _ _ _ rfl rfl (ix2 r j) (fun b hb => match b with
      | ⟨0, _⟩ => absurd rfl hb
      | ⟨1, _⟩ => rfl) (Nat.add_comm _ _)).trans ?_
  exact extractStridedSlice_apply _ _ _ _ _ fun a => match a with
    | ⟨0, _⟩ => (Nat.zero_add _).symm
    | ⟨1, _⟩ => rfl

/-- The product with a matrix whose row `p` is one on columns `128 p` to `128 p + 127` and zero elsewhere copies column
    `p` to each of those columns. -/
theorem spreadDot_apply (v : FVec Ideal S512x32 .f32) (x2 : FVec Ideal S32x4096 .f32)
    (hx2 : ∀ (p : Fin 32) (q : Fin 4096), x2 (ix2 p q) = if p.val = q.val / 128 then 1 else 0) (r : Fin 512) (p : Fin 32) (d : Fin 128) :
    matmul dot_S512x32_S32x4096_S512x4096_1_0_0_1_n_n none v x2 (constant S512x4096 .f32 0x00000000#32)
      (ix2 r ⟨128 * p.val + d.val, by omega⟩) = v (ix2 r p) := by
  simp only [matmul]
  rw [Ideal.matmul_constant_zero_apply, ← Equiv.sum_comp (contrEquiv1 dot_S512x32_S32x4096_S512x4096_1_0_0_1_n_n 32 rfl rfl).symm]
  have hterm : ∀ p' : Fin 32, v (dot_S512x32_S32x4096_S512x4096_1_0_0_1_n_n.lhsIdx (ix2 r ⟨128 * p.val + d.val, by omega⟩)
        ((contrEquiv1 dot_S512x32_S32x4096_S512x4096_1_0_0_1_n_n 32 rfl rfl).symm p'))
      * x2 (dot_S512x32_S32x4096_S512x4096_1_0_0_1_n_n.rhsIdx (ix2 r ⟨128 * p.val + d.val, by omega⟩)
        ((contrEquiv1 dot_S512x32_S32x4096_S512x4096_1_0_0_1_n_n 32 rfl rfl).symm p'))
      = if p' = p then v (ix2 r p) else 0 := fun p' => by
    have hp := contrEquiv1_symm_val dot_S512x32_S32x4096_S512x4096_1_0_0_1_n_n 32 rfl rfl p'
    have e1 : v (dot_S512x32_S32x4096_S512x4096_1_0_0_1_n_n.lhsIdx (ix2 r ⟨128 * p.val + d.val, by omega⟩)
        ((contrEquiv1 dot_S512x32_S32x4096_S512x4096_1_0_0_1_n_n 32 rfl rfl).symm p')) = v (ix2 r p') :=
      congrArg v (funext fun a => Fin.ext (match a with
        | ⟨0, _⟩ => rfl
        | ⟨1, _⟩ => hp))
    have e2 : x2 (dot_S512x32_S32x4096_S512x4096_1_0_0_1_n_n.rhsIdx (ix2 r ⟨128 * p.val + d.val, by omega⟩)
        ((contrEquiv1 dot_S512x32_S32x4096_S512x4096_1_0_0_1_n_n 32 rfl rfl).symm p')) = x2 (ix2 p' ⟨128 * p.val + d.val, by omega⟩) :=
      congrArg x2 (funext fun a => Fin.ext (match a with
        | ⟨0, _⟩ => hp
        | ⟨1, _⟩ => rfl))
    rw [e1, e2, hx2]
    have hq : (128 * p.val + d.val) / 128 = p.val := by omega
    by_cases h : p' = p
    · subst h; rw [if_pos hq.symm, if_pos rfl]; exact mul_one _
    · rw [if_neg (fun h' => h (Fin.ext (h'.trans hq))), if_neg h]; exact mul_zero _
  rw [Finset.sum_congr rfl fun p' _ => hterm p', Finset.sum_ite_eq' Finset.univ p, if_pos (Finset.mem_univ p)]

/-- The spread weights: the shifted halves times the spreading matrix. -/
def spreadWeights (e z : FVec Ideal S508x32 .f32) (x2 : Vec Ideal S32x4096 .f32) : FVec Ideal S512x4096 .f32 :=
  matmul dot_S512x32_S32x4096_S512x4096_1_0_0_1_n_n none (halves (divf e z)) (shapeCast S32x4096 x2 shapeCasts_S32x4096_S32x4096 : FVec Ideal S32x4096 .f32)
    (constant S512x4096 .f32 0x00000000#32)

/-! ## The weighted sums -/

/-- One accumulation step of a weighted sum: the running array plus the spread weights of one position times its rows. -/
def poolStep (a : FVec Ideal S512x128 .f32) (wb : FVec Ideal S512x4096 .f32) (o : Nat) (h : S512x4096.Slices ![0, o] S512x128)
    (y : FVec Ideal S512x128 .f32) : FVec Ideal S512x128 .f32 :=
  addf a (mulf (extractStridedSlice S512x128 ![0, o] wb h) y)

theorem poolStep_apply (a : FVec Ideal S512x128 .f32) (wb : FVec Ideal S512x4096 .f32) (o : Nat) (ho : o + 128 ≤ 4096)
    (h : S512x4096.Slices ![0, o] S512x128) (y : FVec Ideal S512x128 .f32) (r : Fin 512) (d : Fin 128) :
    poolStep a wb o h y (ix2 r d) = a (ix2 r d) + wb (ix2 r ⟨o + d.val, by omega⟩) * y (ix2 r d) := by
  unfold poolStep
  rw [addf_apply, mulf_apply]
  refine congrArg (fun t : EReal => a (ix2 r d) + t * y (ix2 r d)) ?_
  exact extractStridedSlice_apply _ _ _ _ _ fun a => match a with
    | ⟨0, _⟩ => (Nat.zero_add _).symm
    | ⟨1, _⟩ => rfl

end Cert.KernelIdeal.Block

end
-- ==== Proof.Block.lean ====
/-
  What one block of the kernel leaves: its output block at row `r` and lane `d`, as a function of the three blocks it
  loads. Row `r` is head `r % 4` of chunk `r / 4`, and the window of that row is made of the chunk's 16 tokens and of
  the next chunk's.
-/
module

public import proofs.«01_k».proof.Proof.BlockOps

@[expose] public section

set_option maxRecDepth 16384

noncomputable section

namespace Cert.KernelIdeal.Block

open Cert.KernelIdeal Cert.KernelIdeal.Gen Cert.Pooling Idealize.ShloMosaic Idealize.ShloMosaic.ValueIdx
open Cert.KernelIdeal.Facts

/-! ## The sixteen token positions -/

theorem rows_inb (j : Nat) (hj : j < 16) : ∀ a, (![0, 4 * j, 0] : Fin 3 → Nat) a + S128x4x128.size a ≤ S128x64x128.size a := fun a => match a with
  | ⟨0, _⟩ => by show 0 + 128 ≤ 128; omega
  | ⟨1, _⟩ => by show 4 * j + 4 ≤ 64; omega
  | ⟨2, _⟩ => by show 0 + 128 ≤ 128; omega

theorem gate_inb (j : Nat) (hj : j < 16) : ∀ a, (![j, 0, 0] : Fin 3 → Nat) a + S1x128x64.size a ≤ S16x128x64.size a := fun a => match a with
  | ⟨0, _⟩ => by show j + 1 ≤ 16; omega
  | ⟨1, _⟩ => by show 0 + 128 ≤ 128; omega
  | ⟨2, _⟩ => by show 0 + 64 ≤ 64; omega

theorem lanes_slices (o : Nat) (ho : o + 128 ≤ 4096) : S512x4096.Slices ![0, o] S512x128 :=
  ⟨rfl, fun a => match a with
    | ⟨0, _⟩ => by show 0 + 512 ≤ 512; omega
    | ⟨1, _⟩ => ho⟩

/-- The rows of token position `j`: the reshaped slice of the token block. -/
def ys (x0 : Vec Ideal S128x64x128 .f32) (j : Nat) (hj : j < 16) : FVec Ideal S512x128 .f32 :=
  shapeCast S512x128 (shapeCast S128x4x128 (View.ld x0 (Rect.unit (s := S128x64x128) ![0, 4 * j, 0] S128x4x128.size (rows_inb j hj)))
    shapeCasts_S128x4x128_S128x4x128) shapeCasts_S128x4x128_S512x128

/-- The token block at token position `j` of chunk `r / 4`, head `r % 4`, lane `d`. -/
def tok (x0 : Vec Ideal S128x64x128 .f32) (j : Fin 16) (r : Fin 512) (d : Fin 128) : EReal :=
  x0 (ix3 ⟨r.val / 4, by omega⟩ ⟨4 * j.val + r.val % 4, by omega⟩ d)

theorem ys_apply (x0 : Vec Ideal S128x64x128 .f32) (j : Nat) (hj : j < 16) (r : Fin 512) (d : Fin 128) :
    ys x0 j hj (ix2 r d) = tok x0 ⟨j, hj⟩ r d :=
  rows_apply x0 (4 * j) (by omega) (rows_inb j hj) _ _ r d

/-! ## The gate product -/

/-- The gate product accumulated over the first `n` token positions, from zeros. -/
def gateUpto (x0 : Vec Ideal S128x64x128 .f32) (x1 : Vec Ideal S16x128x64 .f32) : (n : Nat) → n ≤ 16 → FVec Ideal S512x64 .f32
  | 0, _ => broadcast S512x64 (Scalar.ofBits .f32 0x00000000#32)
  | n + 1, h => gateStep (gateUpto x0 x1 n (by omega)) (ys x0 n (by omega))
      (View.ld x1 (Rect.unit (s := S16x128x64) ![n, 0, 0] S1x128x64.size (gate_inb n (by omega))))

/-- The part of token position `j` in the gate product of row `r` and column `q`. -/
def gatePart (x0 : Vec Ideal S128x64x128 .f32) (x1 : Vec Ideal S16x128x64 .f32) (r : Fin 512) (q : Fin 64) (j : Fin 16) : EReal :=
  ∑ d : Fin 128, tok x0 j r d * x1 (ix3 j d q)

/-- The accumulated gate product is the sum of the positions' parts. -/
theorem gateUpto_apply (x0 : Vec Ideal S128x64x128 .f32) (x1 : Vec Ideal S16x128x64 .f32) (r : Fin 512) (q : Fin 64) :
    ∀ (n : Nat) (h : n ≤ 16), gateUpto x0 x1 n h (ix2 r q) = ∑ j : Fin n, gatePart x0 x1 r q ⟨j.val, by omega⟩
  | 0, _ => Ideal.ofBits_zero_f32
  | n + 1, h => by
    rw [Fin.sum_univ_castSucc]
    unfold gateUpto
    rw [gateStep_apply, gateUpto_apply x0 x1 r q n (by omega)]
    refine congrArg₂ (· + ·) rfl (Finset.sum_congr rfl fun d _ => congrArg₂ (· * ·) (ys_apply x0 n (by omega) r d) ?_)
    exact gate_apply x1 ⟨n, by omega⟩ (gate_inb n (by omega)) d q

/-- The scores of row `r`: its own left gate product plus the right one of the next chunk's row. -/
def rowScore (x0 : Vec Ideal S128x64x128 .f32) (x1 : Vec Ideal S16x128x64 .f32) (r : Fin 508) (k : Fin 32) : EReal :=
  (∑ j : Fin 16, gatePart x0 x1 ⟨r.val, by omega⟩ ⟨k.val, by omega⟩ j) + ∑ j : Fin 16, gatePart x0 x1 ⟨4 + r.val, by omega⟩ ⟨32 + k.val, by omega⟩ j

/-- The block's scores as an array. -/
abbrev blockScores (x0 : Vec Ideal S128x64x128 .f32) (x1 : Vec Ideal S16x128x64 .f32) : FVec Ideal S508x32 .f32 :=
  scores (gateUpto x0 x1 16 (Nat.le_refl 16))

theorem blockScores_apply (x0 : Vec Ideal S128x64x128 .f32) (x1 : Vec Ideal S16x128x64 .f32) (r : Fin 508) (k : Fin 32) :
    blockScores x0 x1 (ix2 r k) = rowScore x0 x1 r k := by
  unfold rowScore
  exact (scores_apply _ r k).trans (congrArg₂ (· + ·) (gateUpto_apply x0 x1 _ _ 16 _) (gateUpto_apply x0 x1 _ _ 16 _))

/-- The body's exponentials are those of the block's scores … -/
theorem exps_eq (x0 : Vec Ideal S128x64x128 .f32) (x1 : Vec Ideal S16x128x64 .f32) (x2 : Vec Ideal S32x4096 .f32) :
    k0_pay45 x0 x1 x2 = expRows (blockScores x0 x1) := rfl

/-- … and its spread row sums are the exponentials' row sums. -/
theorem sums_eq (x0 : Vec Ideal S128x64x128 .f32) (x1 : Vec Ideal S16x128x64 .f32) (x2 : Vec Ideal S32x4096 .f32) :
    k0_pay46 x0 x1 x2 = sumRows (k0_pay45 x0 x1 x2) := rfl

/-! ## The weighted sums -/

/-- The weighted sum over the first `n` token positions, from zeros, the weights read from lane `base` of `wb` on. -/
def poolUpto (x0 : Vec Ideal S128x64x128 .f32) (wb : FVec Ideal S512x4096 .f32) (base : Nat) (hb : base ≤ 2048) :
    (n : Nat) → n ≤ 16 → FVec Ideal S512x128 .f32
  | 0, _ => broadcast S512x128 (Scalar.ofBits .f32 0x00000000#32)
  | n + 1, h => poolStep (poolUpto x0 wb base hb n (by omega)) wb (base + 128 * n) (lanes_slices _ (by omega)) (ys x0 n (by omega))

theorem poolUpto_apply (x0 : Vec Ideal S128x64x128 .f32) (wb : FVec Ideal S512x4096 .f32) (base : Nat) (hb : base ≤ 2048)
    (r : Fin 512) (d : Fin 128) : ∀ (n : Nat) (h : n ≤ 16), poolUpto x0 wb base hb n h (ix2 r d)
      = ∑ j : Fin n, wb (ix2 r ⟨base + 128 * j.val + d.val, by omega⟩) * tok x0 ⟨j.val, by omega⟩ r d
  | 0, _ => Ideal.ofBits_zero_f32
  | n + 1, h => by
    rw [Fin.sum_univ_castSucc]
    unfold poolUpto
    rw [poolStep_apply _ _ _ (by omega), poolUpto_apply x0 wb base hb r d n (by omega), ys_apply]
    rfl

/-- The spread weights of the block. -/
abbrev blockSpread (x0 : Vec Ideal S128x64x128 .f32) (x1 : Vec Ideal S16x128x64 .f32) (x2 : Vec Ideal S32x4096 .f32) : FVec Ideal S512x4096 .f32 :=
  spreadWeights (k0_pay45 x0 x1 x2) (k0_pay46 x0 x1 x2) (View.ld x2 r0_32)

/-- The body's output block: the chunk's weighted sum plus the next chunk's, four rows on. -/
theorem out_eq (x0 : Vec Ideal S128x64x128 .f32) (x1 : Vec Ideal S16x128x64 .f32) (x2 : Vec Ideal S32x4096 .f32) :
    out0_3 x0 x1 x2 = View.canon [⟨r0_33, shapeCast S1x508x128
      (addf (extractStridedSlice S508x128 ![0, 0] (poolUpto x0 (blockSpread x0 x1 x2) 0 (Nat.zero_le _) 16 (Nat.le_refl 16)) slices_S512x128_o0_0_S508x128)
        (extractStridedSlice S508x128 ![4, 0] (poolUpto x0 (blockSpread x0 x1 x2) 2048 (Nat.le_refl _) 16 (Nat.le_refl 16)) slices_S512x128_o4_0_S508x128))
      shapeCasts_S508x128_S1x508x128⟩] := rfl

/-- The spread weight at row `r` of position `p` is the shifted weight, on every lane. -/
theorem blockSpread_apply (x0 : Vec Ideal S128x64x128 .f32) (x1 : Vec Ideal S16x128x64 .f32) (x2 : Vec Ideal S32x4096 .f32)
    (hx2 : ∀ (p : Fin 32) (q : Fin 4096), x2 (ix2 p q) = if p.val = q.val / 128 then 1 else 0) (r : Fin 512) (p : Fin 32) (d : Fin 128) :
    blockSpread x0 x1 x2 (ix2 r ⟨128 * p.val + d.val, by omega⟩)
      = halves (divf (expRows (blockScores x0 x1)) (sumRows (expRows (blockScores x0 x1)))) (ix2 r p) := by
  unfold blockSpread spreadWeights
  rw [exps_eq, sums_eq, exps_eq, shapeCast_self]
  exact spreadDot_apply _ _ (fun p q => by
    rw [View.ld_unit_zero (funext fun a => match a with
      | ⟨0, _⟩ => rfl
      | ⟨1, _⟩ => rfl)]
    exact hx2 p q) r p d

/-- THE BLOCK: row `r`, lane `d` of the output is the softmax-weighted sum of the chunk's sixteen tokens and of the next
    chunk's sixteen, when the third block is the matrix that spreads a column over 128 lanes. -/
theorem block_apply (x0 : Vec Ideal S128x64x128 .f32) (x1 : Vec Ideal S16x128x64 .f32) (x2 : Vec Ideal S32x4096 .f32)
    (hx2 : ∀ (p : Fin 32) (q : Fin 4096), x2 (ix2 p q) = if p.val = q.val / 128 then 1 else 0) (r : Fin 508) (d : Fin 128) :
    out0_3 x0 x1 x2 (ix3 0 r d)
      = (∑ j : Fin 16, soft (rowScore x0 x1 r) ⟨j.val, by omega⟩ * tok x0 j ⟨r.val, by omega⟩ d)
        + ∑ j : Fin 16, soft (rowScore x0 x1 r) ⟨16 + j.val, by omega⟩ * tok x0 j ⟨4 + r.val, by omega⟩ d := by
  have hs : (fun k => blockScores x0 x1 (ix2 r k)) = rowScore x0 x1 r := funext fun k => blockScores_apply x0 x1 r k
  rw [out_eq, View.canon_unit_zero (funext fun a => match a with
    | ⟨0, _⟩ => rfl
    | ⟨1, _⟩ => rfl
    | ⟨2, _⟩ => rfl)]
  refine (shapeCast_apply _ _ _ (ix2 r d) (by
    rw [Shape.rowMajor_val_three, Shape.rowMajor_val_two]
    show r.val * 128 + d.val = (0 * 508 + r.val) * 128 + d.val
    omega)).trans ?_
  rw [addf_apply]
  refine congrArg₂ (· + ·) ?_ ?_
  · refine (extractStridedSlice_apply _ _ _ _ (ix2 (⟨r.val, by omega⟩ : Fin 512) d) fun a => match a with
      | ⟨0, _⟩ => (Nat.zero_add _).symm
      | ⟨1, _⟩ => (Nat.zero_add _).symm).trans ((poolUpto_apply x0 _ 0 _ _ d 16 _).trans (Finset.sum_congr rfl fun j _ => ?_))
    refine congrArg (· * _) ?_
    have e := blockSpread_apply x0 x1 x2 hx2 ⟨r.val, by omega⟩ ⟨j.val, by omega⟩ d
    rw [halves_left, weights_apply, hs] at e
    refine Eq.trans (congrArg (fun q => blockSpread x0 x1 x2 (ix2 _ q)) (Fin.ext ?_)) e
    show 0 + 128 * j.val + d.val = 128 * j.val + d.val
    omega
  · refine (extractStridedSlice_apply _ _ _ _ (ix2 (⟨4 + r.val, by omega⟩ : Fin 512) d) fun a => match a with
      | ⟨0, _⟩ => rfl
      | ⟨1, _⟩ => (Nat.zero_add _).symm).trans ((poolUpto_apply x0 _ 2048 _ _ d 16 _).trans (Finset.sum_congr rfl fun j _ => ?_))
    refine congrArg (· * _) ?_
    have e := blockSpread_apply x0 x1 x2 hx2 ⟨4 + r.val, by omega⟩ ⟨16 + j.val, by omega⟩ d
    rw [halves_right, weights_apply, hs] at e
    refine Eq.trans (congrArg (fun q => blockSpread x0 x1 x2 (ix2 _ q)) (Fin.ext ?_)) e
    show 2048 + 128 * j.val + d.val = 128 * (16 + j.val) + d.val
    omega

end Cert.KernelIdeal.Block

end
-- ==== Proof.Host.lean ====
/-
  What the operations before the pipelined call leave in its three operands, index by index: the buffer with its tokens
  grouped by chunk, the gate weights with their two halves side by side, and the zero-one array that spreads a weight
  over the lanes of its token position.
-/
module

public import proofs.«01_k».proof.Proof.Block

@[expose] public section

set_option maxRecDepth 16384

noncomputable section

namespace Cert.KernelIdeal.Host

open Cert.KernelIdeal Cert.KernelIdeal.Gen Idealize.ShloMosaic Idealize.ShloMosaic.TcCoe Idealize.ShloMosaic.ValueIdx
open Cert.KernelIdeal.Facts

variable (m : (ℓ : Loc nD τ sig) → Buf (Elt Ideal) ℓ)

/-- The token buffer, as launched on device `c`. -/
abbrev buffer (c : Dev nD) : S16384x4x128.Idx → EReal := m ((c : Thread nD τ).loc main_arg0)
/-- The gate weights, as launched on device `c`. -/
abbrev gates (c : Dev nD) : S32x4096.Idx → EReal := m ((c : Thread nD τ).loc main_arg2)

/-! ## The tokens -/

theorem tokens_eq (c : Dev nD) :
    V m c main_call0_v14 = shapeCast S1024x64x128 (buffer m c) shapeCasts_S16384x4x128_S1024x64x128 := by
  unfold V V0
  simp only [List.flatten_cons, List.flatten_nil, List.append_nil, hostOps0]
  after_results
  rfl

/-- Chunk `a`, row `b` (token position `b / 4`, head `b % 4`). -/
theorem tokens_apply (c : Dev nD) (a : Fin 1024) (b : Fin 64) (d : Fin 128) :
    V m c main_call0_v14 (ix3 a b d) = buffer m c (ix3 ⟨16 * a.val + b.val / 4, by omega⟩ ⟨b.val % 4, by omega⟩ d) := by
  rw [tokens_eq]
  exact shapeCast_apply _ _ _ _ (by
    rw [Shape.rowMajor_val_three, Shape.rowMajor_val_three]
    show ((16 * a.val + b.val / 4) * 4 + b.val % 4) * 128 + d.val = (a.val * 64 + b.val) * 128 + d.val
    omega)

/-! ## The gate weights -/

theorem weights_eq (c : Dev nD) :
    V m c main_call0_v5 = shapeCast S16x128x64 (concatenate S2048x64 1
      [⟨S2048x32, transpose S2048x32 [1, 0] (extractStridedSlice S32x2048 ![0, 0] (gates m c) slices_S32x4096_S32x2048_0_0) transposes_S32x2048_S2048x32_1_0⟩,
       ⟨S2048x32, transpose S2048x32 [1, 0] (extractStridedSlice S32x2048 ![0, 2048] (gates m c) slices_S32x4096_S32x2048_0_2048) transposes_S32x2048_S2048x32_1_0⟩]
      concatenates_S2048x32_S2048x32_S2048x64_d1) shapeCasts_S2048x64_S16x128x64 := by
  unfold V V0
  simp only [List.flatten_cons, List.flatten_nil, List.append_nil, hostOps0]
  after_results
  rfl

/-- A transposed slice of the gate weights that starts at column `o`. -/
theorem half_apply (W : S32x4096.Idx → EReal) (o : Nat) (ho : o + 2048 ≤ 4096) (h : S32x4096.Slices ![0, o] S32x2048)
    (h' : S32x2048.Transposes [1, 0] S2048x32) (p : Fin 2048) (k : Fin 32) :
    transpose S2048x32 [1, 0] (extractStridedSlice S32x2048 ![0, o] W h) h' (ix2 p k) = W (ix2 k ⟨o + p.val, by omega⟩) := by
  refine (transpose_apply _ _ h' (ix2 p k) (ix2 k p) fun b => match b with
    | ⟨0, _⟩ => rfl
    | ⟨1, _⟩ => rfl).trans ?_
  exact extractStridedSlice_apply _ _ _ _ _ fun a => match a with
    | ⟨0, _⟩ => (Nat.zero_add _).symm
    | ⟨1, _⟩ => rfl

theorem cat_apply (A : S2048x64.Idx → EReal) (j : Fin 16) (d : Fin 128) (q : Fin 64) :
    shapeCast S16x128x64 A shapeCasts_S2048x64_S16x128x64 (ix3 j d q) = A (ix2 ⟨128 * j.val + d.val, by omega⟩ q) :=
  shapeCast_apply _ _ _ _ (by
    rw [Shape.rowMajor_val_two, Shape.rowMajor_val_three]
    show (128 * j.val + d.val) * 64 + q.val = (j.val * 128 + d.val) * 64 + q.val
    omega)

/-- A left column holds the weights of the window's first sixteen tokens. -/
theorem weights_left (c : Dev nD) (j : Fin 16) (d : Fin 128) (k : Fin 32) :
    V m c main_call0_v5 (ix3 j d ⟨k.val, by omega⟩) = gates m c (ix2 k ⟨128 * j.val + d.val, by omega⟩) := by
  rw [weights_eq]
  refine (cat_apply _ j d _).trans ?_
  refine (concatenate_pair_apply_left (t := S2048x64) (s₁ := S2048x32) (s₂ := S2048x32) 1 _ _ _ _ rfl
    (ix2 (⟨128 * j.val + d.val, by omega⟩ : Fin 2048) k) (fun b => match b with
      | ⟨0, _⟩ => rfl
      | ⟨1, _⟩ => rfl)).trans ?_
  refine (half_apply _ 0 (by omega) _ _ _ _).trans (congrArg (gates m c) (congrArg (ix2 k) (Fin.ext ?_)))
  exact Nat.zero_add _

/-- A right column holds the weights of its last sixteen. -/
theorem weights_right (c : Dev nD) (j : Fin 16) (d : Fin 128) (k : Fin 32) :
    V m c main_call0_v5 (ix3 j d ⟨32 + k.val, by omega⟩) = gates m c (ix2 k ⟨2048 + (128 * j.val + d.val), by omega⟩) := by
  rw [weights_eq]
  refine (cat_apply _ j d _).trans ?_
  refine (concatenate_pair_apply_right (t := S2048x64) (s₁ := S2048x32) (s₂ := S2048x32) 1 _ _ _ _ rfl rfl
    (ix2 (⟨128 * j.val + d.val, by omega⟩ : Fin 2048) k) (fun b hb => match b with
      | ⟨0, _⟩ => rfl
      | ⟨1, _⟩ => absurd rfl hb) (Nat.add_comm _ _)).trans ?_
  exact half_apply _ 2048 (by omega) _ _ _ _

/-! ## The spreading array -/

/-- The unit matrix as the program builds it: one where the two counted coordinates agree. -/
def unit : FVec Ideal S32x32 .f32 :=
  uitofp .f32 (cmpi .eq (addi (iotaInDim S32x32 32 0) (broadcastInDim S32x32 ![] bcast_S_S32x32 (constantI S_ 32 0#32))) (iotaInDim S32x32 32 1))

theorem spreader_eq (c : Dev nD) :
    V m c main_call0_v13 = shapeCast S32x4096 (broadcastInDim S32x32x128 ![0, 1] bcast_S32x32_S32x32x128_0_1 unit) shapeCasts_S32x32x128_S32x4096 := by
  unfold V V0
  simp only [List.flatten_cons, List.flatten_nil, List.append_nil, hostOps0]
  after_results
  rfl

theorem unit_apply (p q : Fin 32) : unit (ix2 p q) = if p = q then (1 : EReal) else 0 := by
  show ((IntOp.cmpi .eq (IntOp.addi (BitVec.ofNat 32 p.val) 0#32) (BitVec.ofNat 32 q.val)).toNat : EReal) = _
  have h : ∀ p q : Fin 32, (IntOp.cmpi .eq (IntOp.addi (BitVec.ofNat 32 p.val) 0#32) (BitVec.ofNat 32 q.val)).toNat = if p = q then 1 else 0 := by
    decide +kernel
  rw [h]
  split <;> simp

/-- Row `p` of the spreading array is one on columns `128 p` to `128 p + 127` and zero elsewhere. -/
theorem spreader_apply (c : Dev nD) (p : Fin 32) (q : Fin 4096) :
    V m c main_call0_v13 (ix2 p q) = if p.val = q.val / 128 then (1 : EReal) else 0 := by
  rw [spreader_eq]
  refine (shapeCast_apply _ _ (ix2 p q) (ix3 p (⟨q.val / 128, by omega⟩ : Fin 32) (⟨q.val % 128, by omega⟩ : Fin 128)) (by
    rw [Shape.rowMajor_val_two, Shape.rowMajor_val_three]
    show (p.val * 32 + q.val / 128) * 128 + q.val % 128 = p.val * 4096 + q.val
    omega)).trans ?_
  refine (broadcastInDim_apply _ _ _ _ (ix2 p (⟨q.val / 128, by omega⟩ : Fin 32)) fun a => match a with
    | ⟨0, _⟩ => rfl
    | ⟨1, _⟩ => rfl).trans ?_
  rw [unit_apply]
  simp only [Fin.ext_iff]

end Cert.KernelIdeal.Host

end
-- ==== Proof.Equation.lean ====
/-
  The equation: when the blocks hold a sequence's tokens grouped by chunk and the two halves of the gate weights side by
  side, the block's value at row `r` is the pooled value of window `r / 4` of the sequence at head `r % 4`. A window of 32
  tokens is a chunk of 16 and the chunk after it, so both the score of an entry (a sum over 32 × 128 numbers) and the
  weighted sum (over 32 tokens) are sums over the two chunks.
-/
module

public import proofs.«01_k».proof.Proof.Host

@[expose] public section

set_option maxRecDepth 16384

noncomputable section

namespace Cert.KernelIdeal.Equation

open Cert.KernelIdeal Cert.KernelIdeal.Gen Cert.KernelIdeal.Block Cert.Pooling Idealize.ShloMosaic Idealize.ShloMosaic.ValueIdx

/-! ## Sums over a window -/

/-- A sum over 32 entries is the sum over the first sixteen plus the sum over the last sixteen. -/
theorem sum_halves (f : Fin 32 → EReal) :
    ∑ k : Fin 32, f k = (∑ j : Fin 16, f ⟨j.val, by omega⟩) + ∑ j : Fin 16, f ⟨16 + j.val, by omega⟩ :=
  Fin.sum_univ_add (a := 16) (b := 16) f

/-- A sum over 4096 numbers, entry by entry and lane by lane. -/
theorem sum_lanes (f : Fin 4096 → EReal) :
    ∑ e : Fin 4096, f e = ∑ k : Fin 32, ∑ d : Fin 128, f ⟨128 * k.val + d.val, by omega⟩ := by
  rw [← Fintype.sum_prod_type' (f := fun (k : Fin 32) (d : Fin 128) => f ⟨128 * k.val + d.val, by omega⟩),
    ← Equiv.sum_comp (finProdFinEquiv (m := 32) (n := 128)) f]
  exact Finset.sum_congr rfl fun p _ => congrArg f (Fin.ext (Nat.add_comm _ _))

/-! ## The windows of one sequence -/

/-- Row `r` of sequence `t`: the window number over all sequences, … -/
def win (t : Fin 8) (r : Fin 508) : Fin 1016 := ⟨127 * t.val + r.val / 4, by omega⟩
/-- … and the head. -/
def head (r : Fin 508) : Fin 4 := ⟨r.val % 4, by omega⟩

section
variable (X : S16384x4x128.Idx → EReal) (W : S32x4096.Idx → EReal)
variable (x0 : Vec Ideal S128x64x128 .f32) (x1 : Vec Ideal S16x128x64 .f32) (x2 : Vec Ideal S32x4096 .f32) (t : Fin 8)

/-- The first sixteen tokens of a window are its chunk's. -/
theorem tok_left (h0 : ∀ (a : Fin 128) (b : Fin 64) (d : Fin 128), x0 (ix3 a b d)
      = X (ix3 ⟨2048 * t.val + (16 * a.val + b.val / 4), by omega⟩ ⟨b.val % 4, by omega⟩ d)) (r : Fin 508) (j : Fin 16) (d : Fin 128) :
    tok x0 j ⟨r.val, by omega⟩ d = X (ix3 (token (win t r) ⟨j.val, by omega⟩) (head r) d) := by
  unfold tok
  rw [h0]
  refine congrArg₂ (fun a b => X (ix3 a b d)) (Fin.ext ?_) (Fin.ext ?_)
  · show 2048 * t.val + (16 * (r.val / 4) + (4 * j.val + r.val % 4) / 4) = (127 * t.val + r.val / 4) / 127 * 2048 + (127 * t.val + r.val / 4) % 127 * 16 + j.val
    omega
  · show (4 * j.val + r.val % 4) % 4 = r.val % 4
    omega

/-- The last sixteen are the next chunk's. -/
theorem tok_right (h0 : ∀ (a : Fin 128) (b : Fin 64) (d : Fin 128), x0 (ix3 a b d)
      = X (ix3 ⟨2048 * t.val + (16 * a.val + b.val / 4), by omega⟩ ⟨b.val % 4, by omega⟩ d)) (r : Fin 508) (j : Fin 16) (d : Fin 128) :
    tok x0 j ⟨4 + r.val, by omega⟩ d = X (ix3 (token (win t r) ⟨16 + j.val, by omega⟩) (head r) d) := by
  unfold tok
  rw [h0]
  refine congrArg₂ (fun a b => X (ix3 a b d)) (Fin.ext ?_) (Fin.ext ?_)
  · show 2048 * t.val + (16 * ((4 + r.val) / 4) + (4 * j.val + (4 + r.val) % 4) / 4)
      = (127 * t.val + r.val / 4) / 127 * 2048 + (127 * t.val + r.val / 4) % 127 * 16 + (16 + j.val)
    omega
  · show (4 * j.val + (4 + r.val) % 4) % 4 = r.val % 4
    omega

/-- The block's score of a row is the score of its window. -/
theorem rowScore_eq (h0 : ∀ (a : Fin 128) (b : Fin 64) (d : Fin 128), x0 (ix3 a b d)
      = X (ix3 ⟨2048 * t.val + (16 * a.val + b.val / 4), by omega⟩ ⟨b.val % 4, by omega⟩ d))
    (hl : ∀ (j : Fin 16) (d : Fin 128) (k : Fin 32), x1 (ix3 j d ⟨k.val, by omega⟩) = W (ix2 k ⟨128 * j.val + d.val, by omega⟩))
    (hr : ∀ (j : Fin 16) (d : Fin 128) (k : Fin 32), x1 (ix3 j d ⟨32 + k.val, by omega⟩) = W (ix2 k ⟨2048 + (128 * j.val + d.val), by omega⟩))
    (r : Fin 508) : rowScore x0 x1 r = score X W (win t r) (head r) := by
  funext k
  unfold rowScore score gatePart
  rw [sum_lanes, sum_halves]
  refine congrArg₂ (· + ·) (Finset.sum_congr rfl fun j _ => Finset.sum_congr rfl fun d _ => ?_)
    (Finset.sum_congr rfl fun j _ => Finset.sum_congr rfl fun d _ => ?_)
  · rw [tok_left X x0 t h0, hl]
    refine congrArg₂ (fun a b => X (ix3 (token (win t r) a) (head r) b) * _) (Fin.ext ?_) (Fin.ext ?_)
    · show j.val = (128 * j.val + d.val) / 128
      omega
    · show d.val = (128 * j.val + d.val) % 128
      omega
  · rw [tok_right X x0 t h0, hr]
    refine congrArg₂ (· * ·) (congrArg₂ (fun a b => X (ix3 (token (win t r) a) (head r) b)) (Fin.ext ?_) (Fin.ext ?_))
      (congrArg (fun e => W (ix2 k e)) (Fin.ext ?_))
    · show 16 + j.val = (128 * (16 + j.val) + d.val) / 128
      omega
    · show d.val = (128 * (16 + j.val) + d.val) % 128
      omega
    · show 2048 + (128 * j.val + d.val) = 128 * (16 + j.val) + d.val
      omega

/-- THE EQUATION: the block's value at row `r`, lane `d` is the pooled value of the row's window and head. -/
theorem block_pooled (h0 : ∀ (a : Fin 128) (b : Fin 64) (d : Fin 128), x0 (ix3 a b d)
      = X (ix3 ⟨2048 * t.val + (16 * a.val + b.val / 4), by omega⟩ ⟨b.val % 4, by omega⟩ d))
    (hl : ∀ (j : Fin 16) (d : Fin 128) (k : Fin 32), x1 (ix3 j d ⟨k.val, by omega⟩) = W (ix2 k ⟨128 * j.val + d.val, by omega⟩))
    (hr : ∀ (j : Fin 16) (d : Fin 128) (k : Fin 32), x1 (ix3 j d ⟨32 + k.val, by omega⟩) = W (ix2 k ⟨2048 + (128 * j.val + d.val), by omega⟩))
    (h2 : ∀ (p : Fin 32) (q : Fin 4096), x2 (ix2 p q) = if p.val = q.val / 128 then 1 else 0)
    (r : Fin 508) (d : Fin 128) : out0_3 x0 x1 x2 (ix3 0 r d) = pooled X W (win t r) (head r) d := by
  rw [block_apply x0 x1 x2 h2, rowScore_eq X W x0 x1 t h0 hl hr]
  unfold pooled
  rw [sum_halves]
  refine congrArg₂ (· + ·) (Finset.sum_congr rfl fun j _ => ?_) (Finset.sum_congr rfl fun j _ => ?_)
  · rw [tok_left X x0 t h0]
  · rw [tok_right X x0 t h0]

end

end Cert.KernelIdeal.Equation

end
-- ==== Proof.Array.lean ====
/-
  What the kernel's arrays hold: the blocks a grid point reads are the sequence's tokens, the whole gate array and the
  whole spreading array; the result array of the pipelined call is the pooled values with each sequence's windows and
  heads in one axis; the result, after the last reshape, is the pooled values.
-/
module

public import proofs.«01_k».proof.Proof.Equation

@[expose] public section

set_option maxRecDepth 16384

noncomputable section

namespace Cert.KernelIdeal.Array

open Cert.KernelIdeal Cert.KernelIdeal.Gen Cert.KernelIdeal.Host Cert.KernelIdeal.Equation Cert.Pooling
open Idealize.ShloMosaic Idealize.ShloMosaic.TcCoe Idealize.ShloMosaic.ValueIdx Idealize.SL.Sem
open Idealize.ShloMosaic.Pipeline (Dat Window)
open Cert.KernelIdeal.Facts

variable (m : (ℓ : Loc nD τ sig) → Buf (Elt Ideal) ℓ)

/-! ## The blocks -/

/-- Where each window's block lies at point `t`: the token and result blocks at index `t` on the first axis, every other
    coordinate zero. -/
theorem index_facts : ∀ t : Fin cfg0.N,
    (win0_0.index t 0 = t.val ∧ win0_0.index t 1 = 0 ∧ win0_0.index t 2 = 0)
      ∧ (win0_1.index t 0 = 0 ∧ win0_1.index t 1 = 0 ∧ win0_1.index t 2 = 0)
      ∧ (win0_2.index t 0 = 0 ∧ win0_2.index t 1 = 0)
      ∧ (win0_3.index t 0 = t.val ∧ win0_3.index t 1 = 0 ∧ win0_3.index t 2 = 0) := by
  decide +kernel

/-- The sequence of point `t`. -/
def seq (t : Fin cfg0.N) : Fin 8 := ⟨t.val, lt_of_lt_of_eq t.isLt N_0⟩

/-- The token block of point `t`: chunk `a` of sequence `t`, row `b` (token position `b / 4`, head `b % 4`). -/
theorem block0_apply (c : Dev nD) (t : Fin cfg0.N) (a : Fin 128) (b : Fin 64) (d : Fin 128) :
    (iblk m c 0 t : Vec Ideal S128x64x128 .f32) (ix3 a b d)
      = buffer m c (ix3 ⟨2048 * (seq t).val + (16 * a.val + b.val / 4), by omega⟩ ⟨b.val % 4, by omega⟩ d) := by
  obtain ⟨⟨e0, e1, e2⟩, -⟩ := index_facts t
  have hs : (seq t).val = t.val := rfl
  have ha : 128 * (seq t).val + a.val < 1024 := by omega
  refine Eq.trans (b := V m c main_call0_v14 (ix3 ⟨128 * (seq t).val + a.val, ha⟩ b d)) ?_ ?_
  · show V m c main_call0_v14 ((win0_0.rect t).emb (ix3 a b d)) = _
    refine congrArg (V m c main_call0_v14) (funext fun x => Fin.ext ?_)
    match x with
    | ⟨0, _⟩ => exact (win0_0.rect_emb_val t (ix3 a b d) 0).trans (by rw [e0]; show t.val * 128 + a.val = 128 * t.val + a.val; omega)
    | ⟨1, _⟩ => exact win0_0.rect_emb_val_of_index_zero t 1 e1 (ix3 a b d)
    | ⟨2, _⟩ => exact win0_0.rect_emb_val_of_index_zero t 2 e2 (ix3 a b d)
  · rw [tokens_apply]
    refine congrArg (fun x => buffer m c (ix3 x _ d)) (Fin.ext ?_)
    show 16 * (128 * (seq t).val + a.val) + b.val / 4 = 2048 * (seq t).val + (16 * a.val + b.val / 4)
    omega

/-- The gate block of any point is the whole gate array. -/
theorem block1_apply (c : Dev nD) (t : Fin cfg0.N) (j : Fin 16) (d : Fin 128) (q : Fin 64) :
    (iblk m c 1 t : Vec Ideal S16x128x64 .f32) (ix3 j d q) = V m c main_call0_v5 (ix3 j d q) := by
  obtain ⟨-, ⟨e0, e1, e2⟩, -⟩ := index_facts t
  show V m c main_call0_v5 ((win0_1.rect t).emb (ix3 j d q)) = _
  refine congrArg (V m c main_call0_v5) (funext fun x => Fin.ext ?_)
  match x with
  | ⟨0, _⟩ => exact win0_1.rect_emb_val_of_index_zero t 0 e0 (ix3 j d q)
  | ⟨1, _⟩ => exact win0_1.rect_emb_val_of_index_zero t 1 e1 (ix3 j d q)
  | ⟨2, _⟩ => exact win0_1.rect_emb_val_of_index_zero t 2 e2 (ix3 j d q)

/-- The spreading block of any point is the whole spreading array. -/
theorem block2_apply (c : Dev nD) (t : Fin cfg0.N) (p : Fin 32) (q : Fin 4096) :
    (iblk m c 2 t : Vec Ideal S32x4096 .f32) (ix2 p q) = V m c main_call0_v13 (ix2 p q) := by
  obtain ⟨-, -, ⟨e0, e1⟩, -⟩ := index_facts t
  show V m c main_call0_v13 ((win0_2.rect t).emb (ix2 p q)) = _
  refine congrArg (V m c main_call0_v13) (funext fun x => Fin.ext ?_)
  match x with
  | ⟨0, _⟩ => exact win0_2.rect_emb_val_of_index_zero t 0 e0 (ix2 p q)
  | ⟨1, _⟩ => exact win0_2.rect_emb_val_of_index_zero t 1 e1 (ix2 p q)

/-! ## The result array of the pipelined call -/

/-- The pooled values with each sequence's windows and heads in one axis. -/
def rowsOf (c : Dev nD) : S8x508x128.Idx → EReal := fun i =>
  pooled (buffer m c) (gates m c) (win (i 0) (i 1)) (head (i 1)) (i 2)

/-- What point `t` leaves in its output block. -/
theorem after_apply (c : Dev nD) (t : Fin cfg0.N) (r : Fin 508) (d : Fin 128) :
    (out0_3 (iblk m c 0 t) (iblk m c 1 t) (iblk m c 2 t) : Vec Ideal S1x508x128 .f32) (ix3 0 r d)
      = pooled (buffer m c) (gates m c) (win (seq t) r) (head r) d :=
  block_pooled (buffer m c) (gates m c) (iblk m c 0 t) (iblk m c 1 t) (iblk m c 2 t) (seq t)
    (fun a b d => block0_apply m c t a b d)
    (fun j d k => (block1_apply m c t j d _).trans (weights_left m c j d k))
    (fun j d k => (block1_apply m c t j d _).trans (weights_right m c j d k))
    (fun p q => (block2_apply m c t p q).trans (spreader_apply m c p q)) r d

/-- What point `t` writes back is its block of the pooled values. -/
theorem flushed_eq (c : Dev nD) (t : Fin cfg0.N) :
    (dats m 0 c).flushed 3 t = ((cfg0.win 3).blk t).view.read (Elt Ideal) (rowsOf m c) := by
  obtain ⟨-, -, -, e0, e1, e2⟩ := index_facts t
  show (cfg0.win 3).cut (grid0.coords t) ((dats m 0 c).after 3 t) = _
  rw [after0_3]
  show (out0_3 (iblk m c 0 t) (iblk m c 1 t) (iblk m c 2 t) : S1x508x128.Idx → EReal) = fun y => rowsOf m c ((win0_3.rect t).emb y)
  funext y
  have hy : y = ix3 (0 : Fin 1) (y 1) (y 2) := funext fun x => match x with
    | ⟨0, _⟩ => Subsingleton.elim (α := Fin 1) _ _
    | ⟨1, _⟩ => rfl
    | ⟨2, _⟩ => rfl
  have h0 : ((win0_3.rect t).emb y) 0 = seq t := Fin.ext ((win0_3.rect_emb_val t y 0).trans (by
    rw [e0]
    have : (y 0).val < 1 := (y 0).isLt
    show t.val * 1 + (y 0).val = t.val
    omega))
  have h1 : ((win0_3.rect t).emb y) 1 = y 1 := Fin.ext (win0_3.rect_emb_val_of_index_zero t 1 e1 y)
  have h2 : ((win0_3.rect t).emb y) 2 = y 2 := Fin.ext (win0_3.rect_emb_val_of_index_zero t 2 e2 y)
  refine (congrArg (out0_3 (iblk m c 0 t) (iblk m c 1 t) (iblk m c 2 t) : S1x508x128.Idx → EReal) hy).trans
    ((after_apply m c t (y 1) (y 2)).trans ?_)
  unfold rowsOf
  rw [h0, h1, h2]

/-- Every index of the result array lies in the block of its sequence's point. -/
theorem cover (i : S8x508x128.Idx) :
    ∃ t : Fin cfg0.N, (cfg0.win 3).flush t = true ∧ i ∈ ((cfg0.win 3).blk t).view.set := by
  have hi : (i 0).val < 8 := (i 0).isLt
  let t : Fin cfg0.N := ⟨(i 0).val, lt_of_lt_of_eq hi N_0.symm⟩
  obtain ⟨-, -, -, e0, e1, e2⟩ := index_facts t
  refine ⟨t, flush0_3 t, ?_⟩
  have he : ((cfg0.win 3).blk t).view.emb (ix3 (0 : Fin 1) (i 1) (i 2)) = i := by
    show (win0_3.rect t).emb (ix3 (0 : Fin 1) (i 1) (i 2)) = i
    refine funext fun x => Fin.ext ?_
    match x with
    | ⟨0, _⟩ => exact (win0_3.rect_emb_val t (ix3 (0 : Fin 1) (i 1) (i 2)) 0).trans (by
        rw [e0]; show (i 0).val * 1 + 0 = (i 0).val; omega)
    | ⟨1, _⟩ => exact win0_3.rect_emb_val_of_index_zero t 1 e1 (ix3 (0 : Fin 1) (i 1) (i 2))
    | ⟨2, _⟩ => exact win0_3.rect_emb_val_of_index_zero t 2 e2 (ix3 (0 : Fin 1) (i 1) (i 2))
  have h := ((cfg0.win 3).blk t).view.emb_mem_set (ix3 (0 : Fin 1) (i 1) (i 2))
  rwa [he] at h

/-- The result array of the pipelined call ends holding the pooled values. -/
theorem final (c : Dev nD) : (dats m 0 c).arrAt 3 cfg0.N = rowsOf m c :=
  (dats m 0 c).arrAt_eq_of_cover 3 (rowsOf m c) (fun t _ => flushed_eq m c t) cover

/-! ## The result -/

/-- No two windows stage the same array. -/
theorem arrays_inj : Function.Injective (Pipeline.arrRef spec0) := by decide

/-- After the last reshape the result is the reshaped array. -/
theorem tail_eq (c : Dev nD) :
    Pipeline.afterTail₀ cfgs (dats m) 0 (V0 m) [hostOps1] c main_v0 = shapeCast S1016x4x128 (rowsOf m c) shapeCasts_S8x508x128_S1016x4x128 := by
  unfold Pipeline.afterTail₀
  simp only [List.flatten_cons, List.flatten_nil, List.append_nil, hostOps1]
  after_results
  exact (congrArg (fun A => shapeCast S1016x4x128 A shapeCasts_S8x508x128_S1016x4x128)
    ((Pipeline.withArrays_arr spec0 arrays_inj c (V0 m c) (fun w => (dats m 0 c).arrAt w cfg0.N) 3).trans (final m c)))

/-- THE RESULT: window `n`, head `h`, lane `d` of the kernel's result is the pooled value of the window and head. -/
theorem result_apply (c : Dev nD) (n : Fin 1016) (h : Fin 4) (d : Fin 128) :
    Pipeline.afterTail₀ cfgs (dats m) 0 (V0 m) [hostOps1] c main_v0 (ix3 n h d) = pooled (buffer m c) (gates m c) n h d := by
  rw [tail_eq]
  refine (shapeCast_apply _ _ (ix3 n h d) (ix3 (⟨n.val / 127, by omega⟩ : Fin 8) (⟨n.val % 127 * 4 + h.val, by omega⟩ : Fin 508) d) (by
    rw [Shape.rowMajor_val_three, Shape.rowMajor_val_three]
    show (n.val / 127 * 508 + (n.val % 127 * 4 + h.val)) * 128 + d.val = (n.val * 4 + h.val) * 128 + d.val
    omega)).trans ?_
  refine congrArg₂ (fun a b => pooled (buffer m c) (gates m c) a b d) (Fin.ext ?_) (Fin.ext ?_)
  · show 127 * (n.val / 127) + (n.val % 127 * 4 + h.val) / 4 = n.val
    omega
  · show (n.val % 127 * 4 + h.val) % 4 = h.val
    omega

end Cert.KernelIdeal.Array

end
-- ==== Proof.Gather.lean ====
/-
  The tokens the reference gathers: under the precondition that the first eight entries of the sequence offsets are
  0, 2048, 4096, …, the start index of entry `k` of window `n` is the window's token number, it is neither negative nor
  past the end, and the gathered array holds that token.
-/
module

public import proofs.«01_k».proof.Proof.Array
public import proofs.«01_k».proof.Proof.Gen.ReferenceIdeal.Read
public import proofs.«01_k».proof.Proof.Gen.Pre_regular_starts
public import Idealize.ShloMosaic.Lib.ReduceAll
public import Idealize.ShloMosaic.Lib.StableHlo.Predicate

@[expose] public section

set_option maxRecDepth 16384

noncomputable section

namespace Cert.ReferenceIdeal.Gather

open Cert.ReferenceIdeal Cert.ReferenceIdeal.Gen Cert.ReferenceIdeal.Read Cert.Pooling Idealize.ShloMosaic Idealize.ShloMosaic.ValueIdx

/-! ## The precondition -/

/-- The precondition's function being one everywhere makes sequence `i` start at token `2048 i`. -/
theorem starts_of_pre (x0 : S16384x4x128.Idx → EReal) (x1 : IVec S9 32) (x2 : S32x4096.Idx → EReal)
    (h : Cert.Pre_regular_starts.fn (F := Ideal) x0 x1 x2 = fun _ => 1#1) (i : Fin 8) :
    x1 (ix1 (⟨i.val, Nat.lt_succ_of_lt i.isLt⟩ : Fin 9)) = BitVec.ofNat 32 (2048 * i.val) := by
  unfold Cert.Pre_regular_starts.fn at h
  haveI : Subsingleton Cert.Pre_regular_starts.S_.Idx := ⟨fun a b => funext fun x => x.elim0⟩
  have e := Host.reduce_andi_all _ _ _ _ _ (congrFun h (fun x => x.elim0)) (ix1 i)
  have e' := StableHlo.Predicate.cmpi_eq_iff.mp e
  have hl : extractStridedSlice Cert.Pre_regular_starts.S8 ![0] x1 Cert.Pre_regular_starts.Facts.slices_S9_S8_0 (ix1 i)
      = x1 (ix1 (⟨i.val, Nat.lt_succ_of_lt i.isLt⟩ : Fin 9)) :=
    extractStridedSlice_apply _ _ _ _ _ fun a => match a with
      | ⟨0, _⟩ => (Nat.zero_add _).symm
  refine hl.symm.trans (e'.trans ?_)
  show BitVec.ofNat 32 i.val * 2048#32 = BitVec.ofNat 32 (2048 * i.val)
  rw [Nat.mul_comm, BitVec.ofNat_mul]

/-! ## The start indices -/

/-- The start index of entry `k` of window `n` before negative ones are wrapped. -/
theorem raw_apply (x1 : IVec S9 32) (hx : ∀ i : Fin 8, x1 (ix1 (⟨i.val, Nat.lt_succ_of_lt i.isLt⟩ : Fin 9)) = BitVec.ofNat 32 (2048 * i.val))
    (n : Fin 1016) (k : Fin 32) : val_main_v15 (F := Ideal) x1 (ix2 n k) = BitVec.ofNat 32 (token n k).val := by
  have hc : val_main_v13 (F := Ideal) x1 (ix2 n k) = IntOp.addi (x1 (ix1 (⟨n.val / 127, by omega⟩ : Fin 9)))
      (IntOp.muli (BitVec.ofNat 32 (n.val % 127)) 16#32) := by
    rw [val_main_v13_apply, val_main_v10_apply, val_main_v9_apply, val_main_v8_apply, val_main_v6_apply, val_main_v1_apply,
      val_main_v0_apply, val_main_v7_apply, val_main_v5_apply, val_main_v3_apply, val_main_v2_apply, val_main_v4_apply,
      val_main_c_apply]
    exact congrArg (fun j => IntOp.addi (x1 j) _) (funext fun a => match a with
      | ⟨0, _⟩ => rfl)
  have hk : val_main_v14 (F := Ideal) (ix2 n k) = BitVec.ofNat 32 k.val := by
    rw [val_main_v14_apply, val_main_v12_apply, val_main_v11_apply]
  rw [val_main_v15_apply, hc, hk, hx ⟨n.val / 127, by omega⟩]
  show BitVec.ofNat 32 (2048 * (n.val / 127)) + BitVec.ofNat 32 (n.val % 127) * 16#32 + BitVec.ofNat 32 k.val = _
  rw [← BitVec.ofNat_mul, ← BitVec.ofNat_add, ← BitVec.ofNat_add]
  refine congrArg (BitVec.ofNat 32) ?_
  show 2048 * (n.val / 127) + n.val % 127 * 16 + k.val = n.val / 127 * 2048 + n.val % 127 * 16 + k.val
  omega

/-- No start index is negative, so none is wrapped. -/
theorem start_apply (x1 : IVec S9 32) (hx : ∀ i : Fin 8, x1 (ix1 (⟨i.val, Nat.lt_succ_of_lt i.isLt⟩ : Fin 9)) = BitVec.ofNat 32 (2048 * i.val))
    (n : Fin 1016) (k : Fin 32) : val_main_v21 (F := Ideal) x1 (ix3 n k (0 : Fin 1)) = BitVec.ofNat 32 (token n k).val := by
  have hidx : idx_main_v21 (ix3 n k (0 : Fin 1)) = ix2 n k := funext fun a => match a with
    | ⟨0, _⟩ => rfl
    | ⟨1, _⟩ => rfl
  have hlt : (token n k).val < 16384 := (token n k).isLt
  rw [val_main_v21_apply, hidx, val_main_v20_apply, val_main_v17_apply, val_main_v16_apply, val_main_c_0_apply, raw_apply x1 hx]
  have hn : IntOp.cmpi .slt (BitVec.ofNat 32 (token n k).val) 0#32 = 0#1 := by
    rcases BitVec.eq_zero_or_eq_one (IntOp.cmpi .slt (BitVec.ofNat 32 (token n k).val) 0#32) with h | h
    · exact h
    · exact absurd ((StableHlo.Predicate.slt_ofNat_iff (token n k).val 0 (by omega) (by omega)).mp h) (Nat.not_lt_zero _)
  rw [hn]
  rfl

/-! ## The gathered array -/

/-- The gather read at an index: the operand's token at the start index, read signed and kept inside the buffer. -/
theorem gather_apply (x0 : S16384x4x128.Idx → EReal) (idx : IVec S1016x32x1 32) (n : Fin 1016) (k : Fin 32) (h : Fin 4) (d : Fin 128) :
    Host.gather gather_S16384x4x128_S1016x32x1_S1016x32x4x128_23_0_n_n_0_2_14128 x0 idx (ix4 n k h d)
      = x0 (ix3 ⟨min (idx (ix3 n k (0 : Fin 1))).toInt.toNat 16383, by omega⟩ h d) := by
  let g := gather_S16384x4x128_S1016x32x1_S1016x32x4x128_23_0_n_n_0_2_14128
  have hb : ∀ a, g.batchCoord (ix4 n k h d) a = 0 := fun a => GatherDims.batchCoord_eq_zero _ _ _ List.not_mem_nil
  refine congrArg x0 (funext fun a => Fin.ext ?_)
  show g.start (ix4 n k h d) idx a + g.batchCoord (ix4 n k h d) a + g.offCoord (ix4 n k h d) a = _
  rw [hb, Nat.add_zero]
  match a with
  | ⟨0, _⟩ =>
    have ho : g.offCoord (ix4 n k h d) (0 : Fin 3) = 0 :=
      GatherDims.offCoord_eq_zero _ _ _ fun hm => ((GatherDims.mem_sKept _ _).mp hm).1 (List.mem_singleton.mpr rfl)
    have hs : g.start (ix4 n k h d) idx (0 : Fin 3) = min (idx (ix3 n k (0 : Fin 1))).toInt.toNat 16383 := by
      unfold GatherDims.start
      rw [dif_pos (show (0 : Fin 3) ∈ g.startIndexMap from List.mem_singleton.mpr rfl)]
      refine congrArg (fun j => min (idx j).toInt.toNat 16383) (funext fun b => Fin.ext ?_)
      match b with
      | ⟨0, _⟩ => rfl
      | ⟨1, _⟩ => rfl
      | ⟨2, _⟩ => rfl
    exact congrArg₂ (· + ·) hs ho
  | ⟨1, _⟩ =>
    have hs : g.start (ix4 n k h d) idx (1 : Fin 3) = 0 := dif_neg (by decide)
    exact (congrArg (· + _) hs).trans (Nat.zero_add _)
  | ⟨2, _⟩ =>
    have hs : g.start (ix4 n k h d) idx (2 : Fin 3) = 0 := dif_neg (by decide)
    exact (congrArg (· + _) hs).trans (Nat.zero_add _)

/-- THE GATHERED ARRAY: entry `k` of window `n` is the window's token `k`. -/
theorem gathered_apply (x0 : S16384x4x128.Idx → EReal) (x1 : IVec S9 32)
    (hx : ∀ i : Fin 8, x1 (ix1 (⟨i.val, Nat.lt_succ_of_lt i.isLt⟩ : Fin 9)) = BitVec.ofNat 32 (2048 * i.val))
    (n : Fin 1016) (k : Fin 32) (h : Fin 4) (d : Fin 128) :
    val_main_v22 (F := Ideal) x0 x1 (ix4 n k h d) = x0 (ix3 (token n k) h d) := by
  unfold val_main_v22
  refine (gather_apply x0 _ n k h d).trans (congrArg (fun t => x0 (ix3 t h d)) (Fin.ext ?_))
  have hlt : (token n k).val < 16384 := (token n k).isLt
  show min (val_main_v21 (F := Ideal) x1 (ix3 n k (0 : Fin 1))).toInt.toNat 16383 = (token n k).val
  rw [start_apply x1 hx, StableHlo.Predicate.toInt_ofNat_small _ (by omega)]
  omega

end Cert.ReferenceIdeal.Gather

end
-- ==== Proof.Reference.lean ====
/-
  What the reference computes: the gate scores of the gathered windows, their softmax, and the weighted sum of the
  windows' tokens, which is the pooled value.
-/
module

public import proofs.«01_k».proof.Proof.Gather
public import Idealize.ShloMosaic.Lib.KernelVsHost

@[expose] public section

set_option maxRecDepth 16384

noncomputable section

namespace Cert.ReferenceIdeal.Gather

open Cert.ReferenceIdeal Cert.ReferenceIdeal.Gen Cert.ReferenceIdeal.Read Cert.Pooling Idealize.ShloMosaic Idealize.ShloMosaic.ValueIdx

section
variable (x0 : S16384x4x128.Idx → EReal) (x1 : IVec S9 32) (x2 : S32x4096.Idx → EReal)
variable (hx : ∀ i : Fin 8, x1 (ix1 (⟨i.val, Nat.lt_succ_of_lt i.isLt⟩ : Fin 9)) = BitVec.ofNat 32 (2048 * i.val))
include hx

/-! ## The scores -/

/-- The windows flattened: number `e` of window `n` and head `h` is lane `e % 128` of its token `e / 128`. -/
theorem flat_apply (n : Fin 1016) (h : Fin 4) (e : Fin 4096) :
    val_main_v24 (F := Ideal) x0 x1 (ix3 n h e) = x0 (ix3 (token n ⟨e.val / 128, by omega⟩) h ⟨e.val % 128, by omega⟩) := by
  have hidx : idx_main_v23 (idx_main_v24 (ix3 n h e)) = ix4 n (⟨e.val / 128, by omega⟩ : Fin 32) h (⟨e.val % 128, by omega⟩ : Fin 128) :=
    funext fun a => Fin.ext (match a with
      | ⟨0, _⟩ => by show ((n.val * 4 + h.val) * 4096 + e.val) / 16384 = n.val; omega
      | ⟨1, _⟩ => by show ((n.val * 4 + h.val) * 4096 + e.val) / 128 % 32 = e.val / 128; omega
      | ⟨2, _⟩ => by show ((n.val * 4 + h.val) * 4096 + e.val) / 4096 % 4 = h.val; omega
      | ⟨3, _⟩ => by show ((n.val * 4 + h.val) * 4096 + e.val) % 128 = e.val % 128; omega)
  rw [val_main_v24_apply, val_main_v23_apply, hidx]
  exact gathered_apply x0 x1 hx _ _ _ _

/-- The reference's scores. -/
theorem scores_eq (n : Fin 1016) (h : Fin 4) (k : Fin 32) : val_main_v25 (F := Ideal) x0 x1 x2 (ix3 n h k) = score x0 x2 n h k := by
  rw [val_main_v25_apply]
  unfold score
  refine Finset.sum_congr rfl fun e _ => congrArg₂ (· * ·) ?_ (congrArg x2 ?_)
  · have hidx : lidx_main_v25 (ix3 n h k) e = ix3 n h e := funext fun a => match a with
      | ⟨0, _⟩ => rfl
      | ⟨1, _⟩ => rfl
      | ⟨2, _⟩ => rfl
    rw [hidx]
    exact flat_apply x0 x1 hx n h e
  · exact funext fun a => match a with
      | ⟨0, _⟩ => rfl
      | ⟨1, _⟩ => rfl

/-! ## The softmax -/

omit hx in
/-- The largest along the last axis, from minus infinity, of any array of the scores' shape. -/
theorem largest_apply (x : FVec Ideal S1016x4x32 .f32) (h₁ : S1016x4x32.ReducesTo [2] S1016x4) (h₂ : 0 < S_.numel) (n : Fin 1016) (h : Fin 4) :
    Host.reduce FloatOps.maximumf x (constant (F := Ideal) S_ .f32 0xFF800000#32) h₁ h₂ (ix2 n h)
      = (Finset.univ : Finset (Fin 32)).fold max ⊥ (fun k => x (ix3 n h k)) := by
  have hr : S1016x4x32.Reduces [2] S1016x4 := by decide
  have hb : FloatOps.ofBits (F := Ideal) .f32 0xFF800000#32 = (⊥ : EReal) := Cert.KernelIdeal.Block.ofBits_neg_inf
  refine (congrFun (hostReduce_maximumf_eq_multiReduction (F := Ideal) x 0xFF800000#32 h₁ h₂ hr (.inl rfl) rfl) (ix2 n h)).trans ?_
  refine (Ideal.multiReduction_maximumf_single x 0xFF800000#32 hr (.inl rfl) rfl (ix2 n h)).trans ?_
  rw [hb]
  refine congrArg (fun f => (Finset.univ : Finset (Fin 32)).fold max ⊥ f) (funext fun k => congrArg x ?_)
  exact funext fun a => match a with
    | ⟨0, _⟩ => rfl
    | ⟨1, _⟩ => rfl
    | ⟨2, _⟩ => rfl

/-- The largest score of a window and head, after the maximum with minus infinity. -/
theorem top_apply (n : Fin 1016) (h : Fin 4) :
    val_main_v28 (F := Ideal) x0 x1 x2 (ix2 n h) = (Finset.univ : Finset (Fin 32)).fold max ⊥ (score x0 x2 n h) := by
  have hb : FloatOps.ofBits (F := Ideal) .f32 0xFF800000#32 = (⊥ : EReal) := Cert.KernelIdeal.Block.ofBits_neg_inf
  have hm : val_main_v26 (F := Ideal) x0 x1 x2 (ix2 n h) = (Finset.univ : Finset (Fin 32)).fold max ⊥ (score x0 x2 n h) :=
    (largest_apply (val_main_v25 (F := Ideal) x0 x1 x2) _ _ n h).trans
      (congrArg (fun f => (Finset.univ : Finset (Fin 32)).fold max ⊥ f) (funext fun k => scores_eq x0 x1 x2 hx n h k))
  rw [val_main_v28_apply, hm, val_main_v27_apply, val_main_cst_2_apply, hb]
  exact max_eq_right bot_le

/-- The exponentials of the scores less the largest. -/
theorem exps_apply (n : Fin 1016) (h : Fin 4) (k : Fin 32) : val_main_v32 (F := Ideal) x0 x1 x2 (ix3 n h k)
    = Ideal.exp (score x0 x2 n h k - (Finset.univ : Finset (Fin 32)).fold max ⊥ (score x0 x2 n h)) := by
  have hidx : idx_main_v29 (idx_main_v30 (ix3 n h k)) = ix2 n h := funext fun a => match a with
    | ⟨0, _⟩ => rfl
    | ⟨1, _⟩ => rfl
  rw [val_main_v32_apply, val_main_v31_apply, scores_eq x0 x1 x2 hx, val_main_v30_apply, val_main_v29_apply, hidx, top_apply x0 x1 x2 hx]
  rfl

/-- The sum of a window and head's exponentials. -/
theorem total_apply (n : Fin 1016) (h : Fin 4) : val_main_v33 (F := Ideal) x0 x1 x2 (ix2 n h)
    = ∑ k : Fin 32, Ideal.exp (score x0 x2 n h k - (Finset.univ : Finset (Fin 32)).fold max ⊥ (score x0 x2 n h)) := by
  have hz : FloatOps.ofBits (F := Ideal) .f32 0x00000000#32 = (0 : EReal) := Ideal.ofBits_zero_f32
  rw [val_main_v33_apply, val_main_cst_3_apply, hz, zero_add]
  refine Finset.sum_congr rfl fun k _ => ?_
  have hidx : idx_main_v33 (ix2 n h) k = ix3 n h k := funext fun a => match a with
    | ⟨0, _⟩ => rfl
    | ⟨1, _⟩ => rfl
    | ⟨2, _⟩ => rfl
  rw [hidx]
  exact exps_apply x0 x1 x2 hx n h k

/-- The reference's weights. -/
theorem weights_apply (n : Fin 1016) (h : Fin 4) (k : Fin 32) :
    val_main_v36 (F := Ideal) x0 x1 x2 (ix3 n h k) = soft (score x0 x2 n h) k := by
  have hidx : idx_main_v34 (idx_main_v35 (ix3 n h k)) = ix2 n h := funext fun a => match a with
    | ⟨0, _⟩ => rfl
    | ⟨1, _⟩ => rfl
  rw [val_main_v36_apply, exps_apply x0 x1 x2 hx, val_main_v35_apply, val_main_v34_apply, hidx, total_apply x0 x1 x2 hx]
  rfl

/-! ## The result -/

/-- THE REFERENCE: window `n`, head `h`, lane `d` of its result is the pooled value. -/
theorem reference_apply (n : Fin 1016) (h : Fin 4) (d : Fin 128) :
    val_main_v37 (F := Ideal) x0 x1 x2 (ix3 n h d) = pooled x0 x2 n h d := by
  rw [val_main_v37_apply]
  unfold pooled
  refine Finset.sum_congr rfl fun k _ => congrArg₂ (· * ·) ?_ ?_
  · have hidx : lidx_main_v37 (ix3 n h d) k = ix3 n h k := funext fun a => match a with
      | ⟨0, _⟩ => rfl
      | ⟨1, _⟩ => rfl
      | ⟨2, _⟩ => rfl
    rw [hidx]
    exact weights_apply x0 x1 x2 hx n h k
  · have hidx : ridx_main_v37 (ix3 n h d) k = ix4 n k h d := funext fun a => match a with
      | ⟨0, _⟩ => rfl
      | ⟨1, _⟩ => rfl
      | ⟨2, _⟩ => rfl
      | ⟨3, _⟩ => rfl
    rw [hidx]
    exact gathered_apply x0 x1 hx n k h d

end

end Cert.ReferenceIdeal.Gather

end
-- ==== Proof.lean ====
/-
  The certificate. The frames are the programs' runs: the kernel's, as written and at the extended reals, and the
  reference's. The value claim: from memories that agree on the arguments, when the sequences start at the regular
  offsets, the kernel and the reference both end with the pooled values (Proof/Array.lean, Proof/Reference.lean).
-/
module

public import proofs.«01_k».proof.Defs
public import proofs.«01_k».proof.Proof.Gen.Kernel.Frame
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.ValueIdx Idealize.SL.Sem
open Cert.Pooling

/-! ## The frames -/

/-- The kernel as written runs, leaves its arguments and ends with every counter at zero. -/
theorem frame_kernel : Cert.quiescent_Kernel := fun m ρ _ => Cert.Kernel.Gen.frame m ρ

/-- So does the kernel at the extended reals, … -/
theorem frame_kernelIdeal : Cert.quiescent_KernelIdeal := fun m ρ _ => Cert.KernelIdeal.Gen.frame m ρ

/-- … in particular under the precondition. -/
theorem frame_kernelIdeal_regular : Cert.quiescent_KernelIdeal_pre_regular_starts := fun m ρ _ => Cert.KernelIdeal.Gen.frame m ρ

/-- The reference's run read at its arguments; it declares no counter, so each stays at zero. -/
theorem frame_reference_of (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m ρ)

/-- The reference runs, leaves its arguments and ends with every counter at zero, … -/
theorem frame_reference : Cert.quiescent_ReferenceIdeal := fun m ρ _ => frame_reference_of m ρ

/-- … in particular under the precondition. -/
theorem frame_reference_regular : Cert.quiescent_ReferenceIdeal_pre_regular_starts := fun m ρ _ => frame_reference_of m ρ

/-! ## The value -/

/-- The pooled values of device `c`'s arguments, as the kernel's result array. -/
def value (m : (ℓ : Loc Cert.KernelIdeal.nD Cert.KernelIdeal.τ Cert.KernelIdeal.sig) → Buf (Elt Ideal) ℓ) (c : Dev Cert.KernelIdeal.nD) :
    Cert.KernelIdeal.S1016x4x128.Idx → EReal :=
  fun i => pooled (Cert.KernelIdeal.Host.buffer m c) (Cert.KernelIdeal.Host.gates m c) (i 0) (i 1) (i 2)

/-- An index of the result is its three coordinates. -/
theorem idx_eq (i : Cert.KernelIdeal.S1016x4x128.Idx) : i = ix3 (i 0) (i 1) (i 2) := funext fun a => match a with
  | ⟨0, _⟩ => rfl
  | ⟨1, _⟩ => rfl
  | ⟨2, _⟩ => rfl

/-- The kernel's run ends with the pooled values and its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD,
        r.2.mem ((c.tc : Thread Cert.KernelIdeal.nD Cert.KernelIdeal.τ).loc Cert.KernelIdeal.main_v0) = value m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun r h c =>
    ⟨((h.1 c).2 Cert.KernelIdeal.main_v0 (Pipeline.mem_restRefs_of Cert.KernelIdeal.main_v0 (by decide) (by decide))).trans
      (funext fun i => (congrArg _ (idx_eq i)).trans (Cert.KernelIdeal.Array.result_apply m c (i 0) (i 1) (i 2))), h.2 c⟩)
    (θ_run_and (Cert.KernelIdeal.Gen.run_main m ρ) (Cert.KernelIdeal.Gen.unchanged m ρ))

/-- THE VALUE CLAIM: the kernel and the reference end with equal results, the pooled values. -/
theorem algebraic : Cert.algebraic_KernelIdeal_ReferenceIdeal_pre_regular_starts := fun m ρ m' ρ' hpre hargs =>
  ⟨value m, kernel_run m ρ, (θ_run _ _ _).mono (fun r h c => ⟨(h c).1.trans (by
    have hx := Cert.ReferenceIdeal.Gather.starts_of_pre _ _ _ (hpre c)
    obtain ⟨e0, e1, e2⟩ := hargs c
    rw [Cert.ReferenceIdeal.Read.val_main_v37_eq, e0, e1, e2]
    exact funext fun i => (congrArg _ (idx_eq i)).trans (Cert.ReferenceIdeal.Gather.reference_apply _ _ _ hx (i 0) (i 1) (i 2))), (h c).2⟩)
    (Cert.ReferenceIdeal.Value.run m' ρ')⟩

/-! ## The claim -/

/-- Every claim of the certificate holds. -/
theorem claim : Cert.Claim :=
  ⟨Cert.Kernel.Gen.facts, Cert.KernelIdeal.Gen.facts, Cert.ReferenceIdeal.Gen.facts, Cert.Pre_regular_starts.Gen.facts,
    frame_kernel, frame_kernelIdeal, frame_kernelIdeal_regular, frame_reference, frame_reference_regular, trivial, algebraic⟩

end Cert.Proof

end
